-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S512x512 : Shape := ⟨2, ![512, 512]⟩
abbrev S256x2048 : Shape := ⟨2, ![256, 2048]⟩
abbrev S4x256x128 : Shape := ⟨3, ![4, 256, 128]⟩
abbrev S3 : Shape := ⟨1, ![3]⟩
abbrev S4 : Shape := ⟨1, ![4]⟩
abbrev S5 : Shape := ⟨1, ![5]⟩
abbrev S_ : Shape := ⟨0, ![]⟩
abbrev S1 : Shape := ⟨1, ![1]⟩
abbrev S128x2048 : Shape := ⟨2, ![128, 2048]⟩
abbrev S384x2048 : Shape := ⟨2, ![384, 2048]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x512, .bf16⟩
  | .local _ .vmem, ⟨0, _⟩ => ⟨S256x2048, .f32⟩
  | .local _ .vmem, ⟨1, _⟩ => ⟨S512x2048, .f32⟩
  | .local _ .vmem, ⟨2, _⟩ => ⟨S4x256x128, .bf16⟩
  | .local _ .vmem, ⟨3, _⟩ => ⟨S4x256x128, .bf16⟩
  | .local _ .vmem, ⟨4, _⟩ => ⟨S512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_2 v5
  let c4_i32_5 : BitVec 32 := 4#32
  let v13 : BitVec 32 := Scalar.muli v10 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_10 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let c8_i32_9 : BitVec 32 := 8#32
  let v18 : BitVec 32 := Scalar.muli v17 c8_i32_9
  let v19 : BitVec 32 := Scalar.addi c0_i32_10 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v24 : BitVec 32 := Scalar.muli v2 c256_i32
  let c0_i32_14 : BitVec 32 := 0#32
  ![v24.toNat, 0]
def k0_dev3 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v53 : BitVec 32 := Scalar.muli v2 c8_i32_43
  let v54 : BitVec 32 := Scalar.addi c0_i32_44 v53
  let c1_i32_38 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v52 : BitVec 32 := Scalar.subi c1_i32_38 v5
  let c4_i32_45 : BitVec 32 := 4#32
  let v55 : BitVec 32 := Scalar.muli v52 c4_i32_45
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v57 : BitVec 32 := Scalar.muli v8 c1_i32_46
  let v58 : BitVec 32 := Scalar.addi v56 v57
  v58.toNat
def k0_dev4 (d0 : Dev nD) : Nat :=
  let c0_i32_66 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_65 : BitVec 32 := 8#32
  let v79 : BitVec 32 := Scalar.muli v2 c8_i32_65
  let v80 : BitVec 32 := Scalar.addi c0_i32_66 v79
  let c1_i32_60 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v78 : BitVec 32 := Scalar.subi c1_i32_60 v5
  let c4_i32_67 : BitVec 32 := 4#32
  let v81 : BitVec 32 := Scalar.muli v78 c4_i32_67
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v83 : BitVec 32 := Scalar.muli v8 c1_i32_68
  let v84 : BitVec 32 := Scalar.addi v82 v83
  v84.toNat
def k0_dev5 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v101 : BitVec 32 := Scalar.muli v2 c8_i32_82
  let v102 : BitVec 32 := Scalar.addi c0_i32_83 v101
  let c1_i32_77 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v100 : BitVec 32 := Scalar.subi c1_i32_77 v5
  let c4_i32_84 : BitVec 32 := 4#32
  let v103 : BitVec 32 := Scalar.muli v100 c4_i32_84
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v105 : BitVec 32 := Scalar.muli v8 c1_i32_85
  let v106 : BitVec 32 := Scalar.addi v104 v105
  v106.toNat
def k0_dev6 (d0 : Dev nD) : Nat :=
  let c0_i32_99 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_98 : BitVec 32 := 8#32
  let v123 : BitVec 32 := Scalar.muli v2 c8_i32_98
  let v124 : BitVec 32 := Scalar.addi c0_i32_99 v123
  let c1_i32_94 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v122 : BitVec 32 := Scalar.subi c1_i32_94 v5
  let c4_i32_100 : BitVec 32 := 4#32
  let v125 : BitVec 32 := Scalar.muli v122 c4_i32_100
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v127 : BitVec 32 := Scalar.muli v8 c1_i32_101
  let v128 : BitVec 32 := Scalar.addi v126 v127
  v128.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_106 : BitVec 32 := 256#32
  let v137 : BitVec 32 := Scalar.muli v2 c256_i32_106
  let v161 : Index := Scalar.indexCast v137
  let c0_134 : Index := 0#32
  ![v161.toNat, 0]
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_106 : BitVec 32 := 256#32
  let v137 : BitVec 32 := Scalar.muli v2 c256_i32_106
  let c0_i32_142 : BitVec 32 := 0#32
  ![v137.toNat, 0]
def k0_dev7 (d0 : Dev nD) : Nat :=
  let c0_i32_139 : BitVec 32 := 0#32
  let c1_i32_135 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v165 : BitVec 32 := Scalar.subi c1_i32_135 v2
  let c8_i32_138 : BitVec 32 := 8#32
  let v166 : BitVec 32 := Scalar.muli v165 c8_i32_138
  let v167 : BitVec 32 := Scalar.addi c0_i32_139 v166
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_140 : BitVec 32 := 4#32
  let v168 : BitVec 32 := Scalar.muli v5 c4_i32_140
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_141 : BitVec 32 := 1#32
  let v170 : BitVec 32 := Scalar.muli v8 c1_i32_141
  let v171 : BitVec 32 := Scalar.addi v169 v170
  v171.toNat
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_144 : BitVec 32 := 256#32
  let v178 : BitVec 32 := Scalar.muli v2 c256_i32_144
  let v202 : Index := Scalar.indexCast v178
  let c128_172 : Index := 128#32
  ![v202.toNat, 128]
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_144 : BitVec 32 := 256#32
  let v178 : BitVec 32 := Scalar.muli v2 c256_i32_144
  let c128_i32_180 : BitVec 32 := 128#32
  ![v178.toNat, 128]
def k0_dev8 (d0 : Dev nD) : Nat :=
  let c0_i32_177 : BitVec 32 := 0#32
  let c1_i32_173 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v206 : BitVec 32 := Scalar.subi c1_i32_173 v2
  let c8_i32_176 : BitVec 32 := 8#32
  let v207 : BitVec 32 := Scalar.muli v206 c8_i32_176
  let v208 : BitVec 32 := Scalar.addi c0_i32_177 v207
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v209 : BitVec 32 := Scalar.muli v5 c4_i32_178
  let v210 : BitVec 32 := Scalar.addi v208 v209
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v211 : BitVec 32 := Scalar.muli v8 c1_i32_179
  let v212 : BitVec 32 := Scalar.addi v210 v211
  v212.toNat
def k0_off6 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_182 : BitVec 32 := 256#32
  let v219 : BitVec 32 := Scalar.muli v2 c256_i32_182
  let v243 : Index := Scalar.indexCast v219
  let c256_210 : Index := 256#32
  ![v243.toNat, 256]
def k0_off7 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_182 : BitVec 32 := 256#32
  let v219 : BitVec 32 := Scalar.muli v2 c256_i32_182
  let c256_i32_218 : BitVec 32 := 256#32
  ![v219.toNat, 256]
def k0_dev9 (d0 : Dev nD) : Nat :=
  let c0_i32_215 : BitVec 32 := 0#32
  let c1_i32_211 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v247 : BitVec 32 := Scalar.subi c1_i32_211 v2
  let c8_i32_214 : BitVec 32 := 8#32
  let v248 : BitVec 32 := Scalar.muli v247 c8_i32_214
  let v249 : BitVec 32 := Scalar.addi c0_i32_215 v248
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_216 : BitVec 32 := 4#32
  let v250 : BitVec 32 := Scalar.muli v5 c4_i32_216
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_217 : BitVec 32 := 1#32
  let v252 : BitVec 32 := Scalar.muli v8 c1_i32_217
  let v253 : BitVec 32 := Scalar.addi v251 v252
  v253.toNat
def k0_off8 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_220 : BitVec 32 := 256#32
  let v260 : BitVec 32 := Scalar.muli v2 c256_i32_220
  let v284 : Index := Scalar.indexCast v260
  let c384_248 : Index := 384#32
  ![v284.toNat, 384]
def k0_off9 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_220 : BitVec 32 := 256#32
  let v260 : BitVec 32 := Scalar.muli v2 c256_i32_220
  let c384_i32 : BitVec 32 := 384#32
  ![v260.toNat, 384]
def k0_dev10 (d0 : Dev nD) : Nat :=
  let c0_i32_253 : BitVec 32 := 0#32
  let c1_i32_249 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v288 : BitVec 32 := Scalar.subi c1_i32_249 v2
  let c8_i32_252 : BitVec 32 := 8#32
  let v289 : BitVec 32 := Scalar.muli v288 c8_i32_252
  let v290 : BitVec 32 := Scalar.addi c0_i32_253 v289
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v291 : BitVec 32 := Scalar.muli v5 c4_i32_254
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v293 : BitVec 32 := Scalar.muli v8 c1_i32_255
  let v294 : BitVec 32 := Scalar.addi v292 v293
  v294.toNat
def k0_off10 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_258 : BitVec 32 := 256#32
  let v302 : BitVec 32 := Scalar.muli v2 c256_i32_258
  let c0_i32_260 : BitVec 32 := 0#32
  ![v302.toNat, 0]
def k0_off11 (d0 : Dev nD) : Fin 2 → Nat :=
  let c1_i32_262 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v307 : BitVec 32 := Scalar.subi c1_i32_262 v2
  let c256_i32_263 : BitVec 32 := 256#32
  let v308 : BitVec 32 := Scalar.muli v307 c256_i32_263
  let c0_i32_278 : BitVec 32 := 0#32
  ![v308.toNat, 0]
def k0_off12 (d0 : Dev nD) : Fin 2 → Nat :=
  let c1_i32_280 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v327 : BitVec 32 := Scalar.subi c1_i32_280 v2
  let c256_i32_281 : BitVec 32 := 256#32
  let v328 : BitVec 32 := Scalar.muli v327 c256_i32_281
  let c128_i32_296 : BitVec 32 := 128#32
  ![v328.toNat, 128]
def k0_off13 (d0 : Dev nD) : Fin 2 → Nat :=
  let c1_i32_298 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v347 : BitVec 32 := Scalar.subi c1_i32_298 v2
  let c256_i32_299 : BitVec 32 := 256#32
  let v348 : BitVec 32 := Scalar.muli v347 c256_i32_299
  let c256_i32_314 : BitVec 32 := 256#32
  ![v348.toNat, 256]
def k0_off14 (d0 : Dev nD) : Fin 2 → Nat :=
  let c1_i32_316 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v367 : BitVec 32 := Scalar.subi c1_i32_316 v2
  let c256_i32_317 : BitVec 32 := 256#32
  let v368 : BitVec 32 := Scalar.muli v367 c256_i32_317
  let c384_i32_332 : BitVec 32 := 384#32
  ![v368.toNat, 384]
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S4096x512, .f32⟩
  | .hbm, ⟨3, _⟩ => ⟨S512x512, .f32⟩
  | .hbm, ⟨4, _⟩ => ⟨S512x512, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The mesh, the blocks the kernel moves, and what each of them holds.

A device `c` of the 2 x 2 x 4 mesh has a partner along `y` (`yp c`) and one along `x` (`xp c`). It computes the four
256 x 128 blocks of its own half of the rows (`xr c`) from its own part of the contraction, exchanges them with `yp c`,
adds, and exchanges the sums with `xp c`. Here: the partners, the rectangles of every buffer that a copy, a load or a
store goes through, and the contents every buffer has once the kernel has filled it, as functions of the launch memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.Sem

variable {F : FTy → Type} [FloatOps F]

/-! ## Partners -/

set_option backward.proofsInPublic true in
/-- The partner of `c` along `y`. -/
def yp (c : Dev nD) : Dev nD := ⟨(8 * (c.val / 8) + c.val % 4 + 4) - 4 * ((c.val / 4) % 2), by
  have h : c.val < 16 := c.isLt
  show _ < 16
  omega⟩
set_option backward.proofsInPublic true in
/-- The partner of `c` along `x`. -/
def xp (c : Dev nD) : Dev nD := ⟨(4 * ((c.val / 4) % 2) + c.val % 4 + 8) - 8 * (c.val / 8), by
  have h : c.val < 16 := c.isLt
  show _ < 16
  omega⟩
set_option backward.proofsInPublic true in
/-- The coordinate of `c` along `x`: which half of the rows it computes. -/
def xr (c : Dev nD) : Fin 2 := ⟨c.val / 8, by
  have h : c.val < 16 := c.isLt
  omega⟩
/-- The other half of the rows. -/
def xo (c : Dev nD) : Fin 2 := 1 - xr c

theorem yp_yp (c : Dev nD) : yp (yp c) = c := by revert c; decide
theorem xp_xp (c : Dev nD) : xp (xp c) = c := by revert c; decide
theorem yp_ne_xp (c : Dev nD) : yp c ≠ xp c := by revert c; decide
theorem xr_xp (c : Dev nD) : xr (xp c) = xo c := by revert c; decide
theorem xo_xp (c : Dev nD) : xo (xp c) = xr c := by revert c; decide
theorem xr_yp (c : Dev nD) : xr (yp c) = xr c := by revert c; decide
theorem xo_ne_xr (c : Dev nD) : xo c ≠ xr c := by revert c; decide

/-- Exchanging partners along `y` permutes the devices; -/
def ySwap : Dev nD ≃ Dev nD := ⟨yp, yp, yp_yp, yp_yp⟩
/-- and so does exchanging them along `x`. -/
def xSwap : Dev nD ≃ Dev nD := ⟨xp, xp, xp_xp, xp_xp⟩

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)

/-! ## Rectangles -/

theorem inbA (r : Fin 2) : ∀ a, (![256 * r.val, 0] : Fin 2 → ℕ) a + S256x2048.size a ≤ S512x2048.size a := by revert r; decide
theorem inbW (k : Fin 4) : ∀ a, (![128 * k.val, 0] : Fin 2 → ℕ) a + S128x2048.size a ≤ S512x2048.size a := by revert k; decide
theorem inbW1 : ∀ a, (![128, 0] : Fin 2 → ℕ) a + S384x2048.size a ≤ S512x2048.size a := by decide
theorem inbS (k : Fin 4) : ∀ a, (![k.val, 0, 0] : Fin 3 → ℕ) a + S1x256x128.size a ≤ S4x256x128.size a := by revert k; decide
theorem inbB (r : Fin 2) (k : Fin 4) : ∀ a, (![256 * r.val, 128 * k.val] : Fin 2 → ℕ) a + S256x128.size a ≤ S512x512.size a := by
  revert r k; decide
theorem inbO (r : Fin 2) : ∀ a, (![256 * r.val, 0] : Fin 2 → ℕ) a + S256x512.size a ≤ S512x512.size a := by revert r; decide

/-- Half `r` of the rows of the first operand. -/
abbrev rA (r : Fin 2) : Rect S512x2048 := Rect.unit (s := S512x2048) ![256 * r.val, 0] S256x2048.size (inbA r)
/-- The `k`-th 128 rows of the second operand, and its rows from the 128th. -/
abbrev rW (k : Fin 4) : Rect S512x2048 := Rect.unit (s := S512x2048) ![128 * k.val, 0] S128x2048.size (inbW k)
abbrev rW1 : Rect S512x2048 := Rect.unit (s := S512x2048) ![128, 0] S384x2048.size inbW1
/-- The `k`-th slot of the two exchange buffers along `y`. -/
abbrev rS (k : Fin 4) : Rect S4x256x128 := Rect.unit (s := S4x256x128) ![k.val, 0, 0] S1x256x128.size (inbS k)
/-- Block `(r, k)` of the result, and half `r` of its rows. -/
abbrev rB (r : Fin 2) (k : Fin 4) : Rect S512x512 := Rect.unit (s := S512x512) ![256 * r.val, 128 * k.val] S256x128.size (inbB r k)
abbrev rO (r : Fin 2) : Rect S512x512 := Rect.unit (s := S512x512) ![256 * r.val, 0] S256x512.size (inbO r)

/-! ### How they tile the buffers -/

theorem mem_rB {r : Fin 2} {k : Fin 4} {i : S512x512.Idx} :
    i ∈ (rB r k).set ↔ (256 * r.val ≤ i 0 ∧ (i 0 : ℕ) < 256 * r.val + 256) ∧ (128 * k.val ≤ i 1 ∧ (i 1 : ℕ) < 128 * k.val + 128) := by
  rw [Rect.mem_set_unit, Fin.forall_fin_two]; rfl
theorem mem_rO {r : Fin 2} {i : S512x512.Idx} : i ∈ (rO r).set ↔ 256 * r.val ≤ i 0 ∧ (i 0 : ℕ) < 256 * r.val + 256 := by
  rw [Rect.mem_set_unit, Fin.forall_fin_two]
  refine ⟨fun h => h.1, fun h => ⟨h, Nat.zero_le _, ?_⟩⟩
  have : (i 1 : ℕ) < 512 := (i 1).isLt
  exact lt_of_lt_of_eq this (Nat.zero_add _).symm
theorem mem_rS {k : Fin 4} {i : S4x256x128.Idx} : i ∈ (rS k).set ↔ (i 0 : ℕ) = k.val := by
  rw [Rect.mem_set_unit]
  constructor
  · intro h
    have h0 := h 0
    have h1 : (k : ℕ) ≤ i 0 ∧ (i 0 : ℕ) < k + 1 := h0
    omega
  · intro h a
    fin_cases a
    · show (k : ℕ) ≤ i 0 ∧ (i 0 : ℕ) < k + 1
      omega
    · exact ⟨Nat.zero_le _, lt_of_lt_of_eq (show (i 1 : ℕ) < 256 from (i 1).isLt) (Nat.zero_add _).symm⟩
    · exact ⟨Nat.zero_le _, lt_of_lt_of_eq (show (i 2 : ℕ) < 128 from (i 2).isLt) (Nat.zero_add _).symm⟩
theorem mem_rW {k : Fin 4} {i : S512x2048.Idx} : i ∈ (rW k).set ↔ 128 * k.val ≤ i 0 ∧ (i 0 : ℕ) < 128 * k.val + 128 := by
  rw [Rect.mem_set_unit, Fin.forall_fin_two]
  refine ⟨fun h => h.1, fun h => ⟨h, Nat.zero_le _, ?_⟩⟩
  have : (i 1 : ℕ) < 2048 := (i 1).isLt
  exact lt_of_lt_of_eq this (Nat.zero_add _).symm
theorem mem_rW1 {i : S512x2048.Idx} : i ∈ rW1.set ↔ 128 ≤ (i 0 : ℕ) := by
  rw [Rect.mem_set_unit, Fin.forall_fin_two]
  refine ⟨fun h => h.1.1, fun h => ⟨⟨h, ?_⟩, Nat.zero_le _, ?_⟩⟩
  · have : (i 0 : ℕ) < 512 := (i 0).isLt
    exact this
  · have : (i 1 : ℕ) < 2048 := (i 1).isLt
    exact lt_of_lt_of_eq this (Nat.zero_add _).symm

theorem rB_disjoint {r r' : Fin 2} {k k' : Fin 4} (h : r ≠ r' ∨ k ≠ k') : Disjoint (rB r k).set (rB r' k').set := by
  rw [Finset.disjoint_left]
  intro i hi hi'
  rw [mem_rB] at hi hi'
  rcases h with h | h
  · exact h (Fin.ext (by omega))
  · exact h (Fin.ext (by omega))
theorem rO_disjoint {r r' : Fin 2} (h : r ≠ r') : Disjoint (rO r).set (rO r').set := by
  rw [Finset.disjoint_left]
  intro i hi hi'
  rw [mem_rO] at hi hi'
  exact h (Fin.ext (by omega))
theorem rS_disjoint {k k' : Fin 4} (h : k ≠ k') : Disjoint (rS k).set (rS k').set := by
  rw [Finset.disjoint_left]
  intro i hi hi'
  rw [mem_rS] at hi hi'
  exact h (Fin.ext (by omega))
theorem rW_disjoint : Disjoint (rW 0).set rW1.set := by
  rw [Finset.disjoint_left]
  intro i hi hi'
  rw [mem_rW] at hi; rw [mem_rW1] at hi'
  have : ((0 : Fin 4) : ℕ) = 0 := rfl
  omega

/-- Half of the rows of the result is its four blocks; -/
theorem rO_eq (r : Fin 2) : (rO r).set = Finset.univ.biUnion fun k : Fin 4 => (rB r k).set := by
  ext i
  simp only [Finset.mem_biUnion, Finset.mem_univ, true_and, mem_rB, mem_rO]
  have h1 : (i 1 : ℕ) < 512 := (i 1).isLt
  exact ⟨fun h => ⟨⟨(i 1 : ℕ) / 128, by omega⟩, h, by dsimp only; omega⟩, fun ⟨k, h, _⟩ => h⟩
/-- the result is its two halves; -/
theorem rO_univ (c : Dev nD) : (Finset.univ : Finset S512x512.Idx) = (rO (xr c)).set ∪ (rO (xo c)).set := by
  ext i
  simp only [Finset.mem_univ, true_iff, Finset.mem_union, mem_rO]
  have h0 : (i 0 : ℕ) < 512 := (i 0).isLt
  have : (xr c = 0 ∧ xo c = 1) ∨ (xr c = 1 ∧ xo c = 0) := by revert c; decide
  rcases this with ⟨h, h'⟩ | ⟨h, h'⟩ <;> rw [h, h'] <;>
    simp only [Fin.val_zero, Fin.val_one] <;> omega
/-- an exchange buffer along `y` is its four slots; -/
theorem rS_univ : (Finset.univ : Finset S4x256x128.Idx) = Finset.univ.biUnion fun k : Fin 4 => (rS k).set := by
  ext i
  simp only [Finset.mem_univ, true_iff, Finset.mem_biUnion, true_and, mem_rS]
  exact ⟨i 0, rfl⟩
/-- and the second operand is its first 128 rows and the others. -/
theorem rW_univ : (Finset.univ : Finset S512x2048.Idx) = (rW 0).set ∪ rW1.set := by
  ext i
  simp only [Finset.mem_univ, true_iff, Finset.mem_union, mem_rW, mem_rW1]
  have : ((0 : Fin 4) : ℕ) = 0 := rfl
  omega
/-- The later blocks of rows of the second operand are among the rows from the 128th. -/
theorem rW_sub {k : Fin 4} (h : k ≠ 0) : (rW k).set ⊆ rW1.set := by
  intro i hi
  rw [mem_rW] at hi; rw [mem_rW1]
  have : k.val ≠ 0 := fun e => h (Fin.ext e)
  omega

/-! ## Contents -/

variable (m : (ℓ : Loc nD τ sig) → Buf (Elt F) ℓ)

/-- The two operands of device `c`. -/
abbrev A0 (c : Dev nD) : (main_arg0 : Ref sig .tc).ty.Contents (Elt F) := m ((c : Thread nD τ).loc main_arg0)
abbrev A1 (c : Dev nD) : (main_arg1 : Ref sig .tc).ty.Contents (Elt F) := m ((c : Thread nD τ).loc main_arg1)

/-- The rows of the first operand device `c` works on. -/
def D (c : Dev nD) : Vec F S256x2048 .f32 :=
  ((Memref.whole main_arg0 : Memref sig .tc .hbm S512x2048 .f32).access (rA (xr c))).read (Elt F) (A0 m c)
/-- The `k`-th 128 rows of its second operand. -/
def Wk (c : Dev nD) (k : Fin 4) : Vec F S128x2048 .f32 :=
  ((Memref.whole cc0_scratch1 : Memref sig .tc .vmem S512x2048 .f32).access (rW k)).read (Elt F) (A1 m c)
/-- The partial product device `c` sends along `y` from slot `k`. -/
def P (c : Dev nD) (k : Fin 4) : FVec F S1x256x128 .bf16 := k0_pay2 (D m c) (Wk m c k)
/-- All four, as the send buffer holds them. -/
def Yc (c : Dev nD) : S4x256x128.Idx → Elt F .bf16 := fun i => P m c (i 0) (Fin.cons (⟨0, Nat.one_pos⟩ : Fin 1) fun a => i a.succ)
/-- The sum of the two partial products of the pair along `y`, as device `d` adds them. -/
def Bk (d : Dev nD) (k : Fin 4) : FVec F S256x128 .bf16 := k0_pay7 (P m d k) (P m (yp d) k)
/-- Which of `c` and its partner along `x` computes half `r` of the rows. -/
def dOf (c : Dev nD) (r : Fin 2) : Dev nD := if r = xr c then c else xp c
/-- The result: block `(r, k)` is the sum the device responsible for half `r` makes. -/
def G (c : Dev nD) : S512x512.Idx → Elt F .bf16 := fun i =>
  Bk m (dOf c ⟨(i 0).val / 256, by have : (i 0).val < 512 := (i 0).isLt; omega⟩) ⟨(i 1).val / 128, by have : (i 1).val < 512 := (i 1).isLt; omega⟩
    (Shape.pair ⟨(i 0).val % 256, Nat.mod_lt _ (by decide)⟩ ⟨(i 1).val % 128, Nat.mod_lt _ (by decide)⟩)

theorem dOf_xp (c : Dev nD) (r : Fin 2) : dOf (xp c) r = dOf c r := by revert c r; decide
theorem dOf_xr (c : Dev nD) : dOf c (xr c) = c := if_pos rfl
theorem dOf_xo (c : Dev nD) : dOf c (xo c) = xp c := if_neg (xo_ne_xr c)

/-- Partners along `x` end with the same result. -/
theorem G_xp (c : Dev nD) : G m (xp c) = G m c := by funext i; unfold G; rw [dOf_xp]

/-- Slot `k` of the send buffer is the `k`-th partial product. -/
theorem Yc_emb (c : Dev nD) (k : Fin 4) (x : S1x256x128.Idx) : Yc m c ((rS k).emb x) = P m c k x := by
  have h0 : ((rS k).emb x) 0 = k := Fin.ext (by
    show k.val + 1 * (x 0).val = k.val
    have : (x 0).val < 1 := (x 0).isLt
    omega)
  have hx : (Fin.cons (⟨0, Nat.one_pos⟩ : Fin 1) fun a => ((rS k).emb x) a.succ : S1x256x128.Idx) = x := by
    funext a
    refine Fin.cases ?_ (fun a => ?_) a
    · exact Fin.ext (by
        have : (x 0).val < 1 := (x 0).isLt
        show 0 = (x 0).val
        omega)
    · refine Fin.ext ?_
      fin_cases a
      · show 0 + 1 * (x 1).val = (x 1).val; omega
      · show 0 + 1 * (x 2).val = (x 2).val; omega
  unfold Yc
  exact congr (congrArg (P m c) h0) hx

/-- Block `(r, k)` of the result is the sum the device responsible for half `r` makes. -/
theorem G_emb (c : Dev nD) (r : Fin 2) (k : Fin 4) (x : S256x128.Idx) : G m c ((rB r k).emb x) = Bk m (dOf c r) k x := by
  have e0 : (((rB r k).emb x) 0 : ℕ) = 256 * r.val + 1 * (x 0).val := rfl
  have e1 : (((rB r k).emb x) 1 : ℕ) = 128 * k.val + 1 * (x 1).val := rfl
  have h0 : (x 0).val < 256 := (x 0).isLt
  have h1 : (x 1).val < 128 := (x 1).isLt
  unfold G
  have hr : (⟨(((rB r k).emb x) 0).val / 256, by have : (((rB r k).emb x) 0).val < 512 := (((rB r k).emb x) 0).isLt; omega⟩ : Fin 2) = r :=
    Fin.ext (by dsimp only; omega)
  have hk : (⟨(((rB r k).emb x) 1).val / 128, by have : (((rB r k).emb x) 1).val < 512 := (((rB r k).emb x) 1).isLt; omega⟩ : Fin 4) = k :=
    Fin.ext (by dsimp only; omega)
  have hx : (Shape.pair ⟨(((rB r k).emb x) 0).val % 256, Nat.mod_lt _ (by decide)⟩ ⟨(((rB r k).emb x) 1).val % 128, Nat.mod_lt _ (by decide)⟩ : S256x128.Idx) = x := by
    funext a
    refine Fin.ext ?_
    fin_cases a
    · show (((rB r k).emb x) 0).val % 256 = (x 0).val; omega
    · show (((rB r k).emb x) 1).val % 128 = (x 1).val; omega
  rw [hr, hk]
  exact congrArg _ hx

/-- Reading slot `k` of the send buffer, and of the receive buffer holding the same. -/
theorem read_ysend (c : Dev nD) (k : Fin 4) :
    ((Memref.whole cc0_scratch2 : Memref sig .tc .vmem S4x256x128 .bf16).access (rS k)).read (Elt F) (Yc m c) = P m c k :=
  funext fun x => Yc_emb m c k x
theorem read_yrecv (c : Dev nD) (k : Fin 4) :
    ((Memref.whole cc0_scratch3 : Memref sig .tc .vmem S4x256x128 .bf16).access (rS k)).read (Elt F) (Yc m c) = P m c k :=
  funext fun x => Yc_emb m c k x
/-- Reading block `(r, k)` of the result buffer. -/
theorem read_outv (c : Dev nD) (r : Fin 2) (k : Fin 4) :
    ((Memref.whole cc0_scratch4 : Memref sig .tc .vmem S512x512 .bf16).access (rB r k)).read (Elt F) (G m c) = Bk m (dOf c r) k :=
  funext fun x => G_emb m c r k x

end Cert.KernelIdeal.Run
-- ==== Proof.Protocol.lean ====
/-
The protocol: every semaphore of the kernel is used for one round. The barrier semaphore of a device is signalled once
by each partner, who thereby hands over the landing places of the copies it will receive; every copy's semaphores are
completed once, and the completion hands over what the copy moved. Here: the semaphores by name, what each completion
hands over, the schedule of the rounds library, what every device owes at launch and the order in which waits are
justified.
-/
module

public import proofs.«01_k».proof.Proof.Mesh

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Elements `S` of buffer `b` of device `c`, at share `q`, holding `f`. -/
abbrev pt (b : Ref sig .tc) (c : Dev nD) (S : Finset b.ty.shape.Idx) (q : PosShare TreeShare) (f : b.ty.Contents (Elt F)) : sProp 𝕄 :=
  ((c : Thread nD τ).loc b) ↦[S]{q} f

/-- Four of a kind. -/
abbrev four (Φ : Fin 4 → sProp 𝕄) : sProp 𝕄 := iprop(Φ 0 ∗ Φ 1 ∗ Φ 2 ∗ Φ 3)
omit [FloatOps F] in
theorem four_eq (Φ : Fin 4 → sProp 𝕄) : bigSep Finset.univ Φ = four Φ := bigSep_univ_eq_bigSepL [0, 1, 2, 3] (by decide) (by decide) Φ

/-! ## The semaphores -/

/-- The barrier semaphore, and those of the copies: the loads, the sends and receives along `y` and along `x`, the copies
    of the result out. -/
abbrev barS : Sem sig := (SemArray.scalar (sig.barrier 0 rfl) : Sems sig S_).sem
set_option backward.proofsInPublic true in
abbrev ldS (j : Fin 3) : DmaSem sig := (⟨j.val, by omega⟩ : Fin 24)
set_option backward.proofsInPublic true in
abbrev ysS (k : Fin 4) : DmaSem sig := (⟨3 + k.val, by omega⟩ : Fin 24)
set_option backward.proofsInPublic true in
abbrev yrS (k : Fin 4) : DmaSem sig := (⟨7 + k.val, by omega⟩ : Fin 24)
set_option backward.proofsInPublic true in
abbrev xsS (k : Fin 4) : DmaSem sig := (⟨11 + k.val, by omega⟩ : Fin 24)
set_option backward.proofsInPublic true in
abbrev xrS (k : Fin 4) : DmaSem sig := (⟨15 + k.val, by omega⟩ : Fin 24)
set_option backward.proofsInPublic true in
abbrev ouS (j : Fin 5) : DmaSem sig := (⟨19 + j.val, by omega⟩ : Fin 24)

abbrev barCell (c : Dev nD) : GSem nD τ sig := ((c : Thread nD τ), .reg barS)
abbrev dCell (c : Dev nD) (i : DmaSem sig) : GSem nD τ sig := ((c : Thread nD τ), .dma i)

/-- The amounts the copies complete with: the loads, every 256 x 128 block, the half of the result. -/
abbrev nLd0 : ℕ := cc0_scratch0.dmaCredit S256x2048 .f32
abbrev nLd1 : ℕ := cc0_scratch1.dmaCredit S128x2048 .f32
abbrev nLd2 : ℕ := cc0_scratch1.dmaCredit S384x2048 .f32
abbrev nB : ℕ := cc0_scratch4.dmaCredit S256x128 .bf16
abbrev nO : ℕ := main_v1.dmaCredit S256x512 .bf16

/-- The amount of copy semaphore `i`. -/
def amt (i : DmaSem sig) : ℕ :=
  if i.val = 0 then nLd0 else if i.val = 1 then nLd1 else if i.val = 2 then nLd2 else if i.val = 19 then nO else nB

theorem amt_pos (i : DmaSem sig) : 0 < amt i := by
  unfold amt
  (repeat' split) <;> exact sig.dmaCredit_pos _ _ _ _ _ (by decide)

theorem amt_ld0 : amt (ldS 0) = nLd0 := by unfold amt; rw [if_pos (by decide)]
theorem amt_ld1 : amt (ldS 1) = nLd1 := by unfold amt; rw [if_neg (by decide), if_pos (by decide)]
theorem amt_ld2 : amt (ldS 2) = nLd2 := by unfold amt; rw [if_neg (by decide), if_neg (by decide), if_pos (by decide)]
theorem amt_ou0 : amt (ouS 0) = nO := by unfold amt; rw [if_neg (by decide), if_neg (by decide), if_neg (by decide), if_pos (by decide)]
theorem amt_nB (i : DmaSem sig) (h : 2 < i.val ∧ i.val ≠ 19) : amt i = nB := by
  unfold amt; rw [if_neg (by omega), if_neg (by omega), if_neg (by omega), if_neg h.2]

/-! ## What completions hand over -/

/-- A load's completion: what it filled, and the part of the operand it read. -/
def ldPay (c : Dev nD) : Fin 3 → sProp 𝕄
  | 0 => iprop(pt cc0_scratch0 c Finset.univ fullShare (D m c) ∗ pt main_arg0 c (rA (xr c)).set fullShare (A0 m c))
  | 1 => iprop(pt cc0_scratch1 c (rW 0).set fullShare (A1 m c) ∗ pt main_arg1 c (rW 0).set fullShare (A1 m c))
  | 2 => iprop(pt cc0_scratch1 c rW1.set fullShare (A1 m c) ∗ pt main_arg1 c rW1.set fullShare (A1 m c))
/-- A send along `y` done: its slot back. -/
def ysPay (c : Dev nD) (k : Fin 4) : sProp 𝕄 := pt cc0_scratch2 c (rS k).set fullShare (Yc m c)
/-- A receipt along `y`: the slot holding the partner's partial product. -/
def yrPay (c : Dev nD) (k : Fin 4) : sProp 𝕄 := pt cc0_scratch3 c (rS k).set fullShare (Yc m (yp c))
/-- A send along `x` done: the half share of the block it read. -/
def xsPay (c : Dev nD) (k : Fin 4) : sProp 𝕄 := pt cc0_scratch4 c (rB (xr c) k).set fullShare.left (G m c)
/-- A receipt along `x`: the block holding the partner's sum. -/
def xrPay (c : Dev nD) (k : Fin 4) : sProp 𝕄 := pt cc0_scratch4 c (rB (xo c) k).set fullShare (G m c)
/-- A copy out done: the part of the result it wrote, and what it read. -/
def ouPay (c : Dev nD) (j : Fin 5) : sProp 𝕄 :=
  if h : j.val = 0 then iprop(pt main_v1 c (rO (xr c)).set fullShare (G m c) ∗ pt cc0_scratch4 c (rO (xr c)).set fullShare.right (G m c))
  else iprop(pt main_v1 c (rB (xo c) ⟨j.val - 1, by omega⟩).set fullShare (G m c) ∗ pt cc0_scratch4 c (rB (xo c) ⟨j.val - 1, by omega⟩).set fullShare (G m c))

set_option backward.proofsInPublic true in
/-- By copy semaphore. -/
def dPay (c : Dev nD) (i : DmaSem sig) : sProp 𝕄 :=
  have hi : i.val < 24 := i.isLt
  if h : i.val < 3 then ldPay m c ⟨i.val, h⟩
  else if h' : i.val < 7 then ysPay m c ⟨i.val - 3, by omega⟩
  else if h' : i.val < 11 then yrPay m c ⟨i.val - 7, by omega⟩
  else if h' : i.val < 15 then xsPay m c ⟨i.val - 11, by omega⟩
  else if h' : i.val < 19 then xrPay m c ⟨i.val - 15, by omega⟩
  else ouPay m c ⟨i.val - 19, by omega⟩

/-- A barrier signal to `c`: from its partner along `y` (`false`) that partner's four receive slots, from its partner along
    `x` (`true`) the four blocks of that partner's result buffer that `c` computes. -/
def barPay (c : Dev nD) (d : Bool) : sProp 𝕄 :=
  if d then iprop(∃ f, four fun k => pt cc0_scratch4 (xp c) (rB (xr c) k).set fullShare f)
  else iprop(∃ f, four fun k => pt cc0_scratch3 (yp c) (rS k).set fullShare f)

omit [FloatOps F] in
instance barPay_storable (c : Dev nD) (d : Bool) : BI.Storable (upEmb : UEmb _ 𝕄) (barPay (F := F) c d) := by
  unfold barPay; split <;> infer_instance
instance ldPay_storable (c : Dev nD) (j : Fin 3) : BI.Storable (upEmb : UEmb _ 𝕄) (ldPay m c j) := by
  unfold ldPay; split <;> infer_instance
instance ouPay_storable (c : Dev nD) (j : Fin 5) : BI.Storable (upEmb : UEmb _ 𝕄) (ouPay m c j) := by
  unfold ouPay; split <;> infer_instance
instance dPay_storable (c : Dev nD) (i : DmaSem sig) : BI.Storable (upEmb : UEmb _ 𝕄) (dPay m c i) := by
  unfold dPay ysPay yrPay xsPay xrPay; dsimp only
  (repeat' split) <;> infer_instance

theorem dPay_ld (c : Dev nD) (j : Fin 3) : dPay m c (ldS j) = ldPay m c j := by fin_cases j <;> rfl
theorem dPay_ys (c : Dev nD) (k : Fin 4) : dPay m c (ysS k) = ysPay m c k := by fin_cases k <;> rfl
theorem dPay_yr (c : Dev nD) (k : Fin 4) : dPay m c (yrS k) = yrPay m c k := by fin_cases k <;> rfl
theorem dPay_xs (c : Dev nD) (k : Fin 4) : dPay m c (xsS k) = xsPay m c k := by fin_cases k <;> rfl
theorem dPay_xr (c : Dev nD) (k : Fin 4) : dPay m c (xrS k) = xrPay m c k := by fin_cases k <;> rfl
theorem dPay_ou (c : Dev nD) (j : Fin 5) : dPay m c (ouS j) = ouPay m c j := by fin_cases j <;> rfl

/-! ## The schedule -/

/-- One round: a barrier semaphore has two duties of one unit, a copy semaphore one duty of the copy's amount. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma i => amt i
  payload g _ d := match g.2 with | .reg _ => barPay g.1.1 d | .dma i => dPay m g.1.1 i
  amount_pos g _ _ _ := match g.2 with | .reg _ => Nat.one_pos | .dma i => amt_pos i

instance Rd_payload_storable (g : GSem nD τ sig) (r : ℕ) (d : Bool) : BI.Storable (upEmb : UEmb _ 𝕄) ((Rd (F := F) m).payload g r d) := by
  show BI.Storable upEmb (match g.2 with | .reg _ => barPay g.1.1 d | .dma i => dPay m g.1.1 i)
  split <;> infer_instance

theorem duties_bar (c : Dev nD) : (Rd m).duties (barCell c) 0 = Finset.univ := by dsimp only [Rd]; exact if_pos ⟨rfl, rfl⟩
theorem duties_dma (c : Dev nD) (i : DmaSem sig) : (Rd m).duties (dCell c i) 0 = {false} := by dsimp only [Rd]; exact if_pos ⟨rfl, rfl⟩
theorem duties_later (g : GSem nD τ sig) : ∀ r, 1 ≤ r → (Rd m).duties g r = ∅ := fun r hr => by
  dsimp only [Rd]; exact if_neg fun h => by omega
theorem mem_duties_dma (c : Dev nD) (i : DmaSem sig) : false ∈ (Rd m).duties (dCell c i) 0 := by
  rw [duties_dma]; exact Finset.mem_singleton_self _

theorem expect_bar (c : Dev nD) : (Rd m).expect (barCell c) 0 = 2 := by
  unfold Schedule.expect Schedule.amountOf
  rw [duties_bar]; rfl
theorem expect_dma (c : Dev nD) (i : DmaSem sig) : (Rd m).expect (dCell c i) 0 = amt i := by
  unfold Schedule.expect Schedule.amountOf
  rw [duties_dma, Finset.sum_singleton]; rfl

/-- All that the barrier's round hands over; -/
theorem rest_bar (c : Dev nD) :
    bigSep ((Rd m).duties (barCell c) 0 \ ∅) (fun d => (Rd m).payload (barCell c) 0 d) = iprop(barPay c false ∗ barPay c true) := by
  rw [Finset.sdiff_empty, duties_bar, bigSep_univ_eq_bigSepL [false, true] (by decide) (by decide), bigSepL_cons_cons, bigSepL_singleton]
  rfl
/-- and a copy's. -/
theorem rest_dma (c : Dev nD) (i : DmaSem sig) :
    bigSep ((Rd m).duties (dCell c i) 0 \ ∅) (fun d => (Rd m).payload (dCell c i) 0 d) = dPay m c i := by
  rw [Finset.sdiff_empty, duties_dma, bigSep_singleton]; rfl

/-! ## What is owed, and the levels -/

/-- What the sends of `n` blocks along `y` and along `x` that are still to come owe; the first of them is summed last. -/
def OY (c : Dev nD) : ℕ → CellTallies nD τ sig Unit
  | 0 => 0
  | n + 1 => OY c n + tallyAt (dCell (yp c) (yrS ⟨3 - n, by omega⟩)) () nB
def OX (c : Dev nD) : ℕ → CellTallies nD τ sig Unit
  | 0 => 0
  | n + 1 => OX c n + tallyAt (dCell (xp c) (xrS ⟨3 - n, by omega⟩)) () nB
/-- Both. -/
def OS (c : Dev nD) (n n' : ℕ) : CellTallies nD τ sig Unit := OX c n' + OY c n
/-- With the signal to the partner along `x`, and at launch with both signals. -/
def O₁ (c : Dev nD) : CellTallies nD τ sig Unit := OS c 4 4 + tallyAt (barCell (xp c)) () 1
def O₀ (c : Dev nD) : CellTallies nD τ sig Unit := O₁ c + tallyAt (barCell (yp c)) () 1

def L (g : GSem nD τ sig) : Finset Unit := if g.1.2 = .tc then {()} else ∅
/-- Barriers at 1, receipts along `y` at 2, along `x` at 3, everything else at 0. -/
def lvD (i : DmaSem sig) : ℕ := if i.val < 7 then 0 else if i.val < 11 then 2 else if i.val < 15 then 0 else if i.val < 19 then 3 else 0
def lv (g : GSem nD τ sig) (_ : Unit) : ℕ := match g.2 with | .reg _ => 1 | .dma i => lvD i

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h
theorem add_pos_or {O O' : CellTallies nD τ sig Unit} {g : GSem nD τ sig} {u : Unit} (h : 0 < (O + O') g u) : 0 < O g u ∨ 0 < O' g u := by
  rw [Pi.add_apply, Finsupp.add_apply] at h; omega

theorem OY_pos {c : Dev nD} {g : GSem nD τ sig} {u : Unit} : ∀ {n : ℕ}, 0 < OY c n g u → ∃ k, g = dCell (yp c) (yrS k)
  | 0, h => absurd h (Nat.lt_irrefl 0)
  | n + 1, h => (add_pos_or h).elim OY_pos fun h => ⟨_, tally_pos h⟩
theorem OX_pos {c : Dev nD} {g : GSem nD τ sig} {u : Unit} : ∀ {n : ℕ}, 0 < OX c n g u → ∃ k, g = dCell (xp c) (xrS k)
  | 0, h => absurd h (Nat.lt_irrefl 0)
  | n + 1, h => (add_pos_or h).elim OX_pos fun h => ⟨_, tally_pos h⟩
theorem OS_pos {c : Dev nD} {g : GSem nD τ sig} {u : Unit} {n n' : ℕ} (h : 0 < OS c n n' g u) :
    (0 < n ∧ ∃ k, g = dCell (yp c) (yrS k)) ∨ ∃ k, g = dCell (xp c) (xrS k) := by
  rcases add_pos_or h with h | h
  · exact .inr (OX_pos h)
  · refine .inl ⟨?_, OY_pos h⟩
    rcases n with _ | n
    · exact absurd h (Nat.lt_irrefl 0)
    · exact Nat.succ_pos n
theorem O₀_pos {c : Dev nD} {g : GSem nD τ sig} {u : Unit} (h : 0 < O₀ c g u) :
    (∃ k, g = dCell (yp c) (yrS k)) ∨ (∃ k, g = dCell (xp c) (xrS k)) ∨ g = barCell (xp c) ∨ g = barCell (yp c) := by
  rcases add_pos_or h with h | h
  · rcases add_pos_or h with h | h
    · rcases OS_pos h with ⟨-, h⟩ | h
      exacts [.inl h, .inr (.inl h)]
    · exact .inr (.inr (.inl (tally_pos h)))
  · exact .inr (.inr (.inr (tally_pos h)))

theorem lvD_yr (k : Fin 4) : lvD (yrS k) = 2 := by fin_cases k <;> rfl
theorem lvD_xr (k : Fin 4) : lvD (xrS k) = 3 := by fin_cases k <;> rfl

omit [FloatOps F] in
/-- A wait is justified while the sends still to come are all to cells above it. -/
theorem mayWait (c : Dev nD) (sm : SemLoc sig) (n n' : ℕ)
    (h : lv ((c : Thread nD τ), sm) () < 3 ∧ (n = 0 ∨ lv ((c : Thread nD τ), sm) () < 2)) :
    (levAts L lv : sProp 𝕄) ⊢ MayWait (c : Thread nD τ) sm () (OS c n n') :=
  MayOwe.of_cut (L := L) (lev := lv) (lv ((c : Thread nD τ), sm) ())
    (fun p hp => by rw [Finset.mem_singleton.mp hp, L_tc]; exact Finset.mem_singleton_self _)
    (fun g u hg => by rcases OS_pos hg with ⟨-, k, rfl⟩ | ⟨k, rfl⟩ <;> exact Finset.mem_singleton_self _)
    (fun p hp => by rw [Finset.mem_singleton.mp hp])
    (fun g u hg => by
      rcases OS_pos hg with ⟨hn, k, rfl⟩ | ⟨k, rfl⟩
      · rw [show lv (dCell (yp c) (yrS k)) u = 2 from lvD_yr k]; omega
      · rw [show lv (dCell (xp c) (xrS k)) u = 3 from lvD_xr k]; omega)
omit [FloatOps F] in
/-- Owing nothing, any wait is. -/
theorem mayWait_zero (c : Dev nD) (sm : SemLoc sig) : (levAts L lv : sProp 𝕄) ⊢ MayWait (c : Thread nD τ) sm () (OS c 0 0) := by
  rw [show OS c 0 0 = 0 from add_zero _, MayWait_zero]; iintro -; iempintro

end Cert.KernelIdeal.Run
-- ==== Proof.Steps.lean ====
/-
The steps of the run: for every kind of operation of the kernel, what it needs and what the program continues with.
-/
module

public import proofs.«01_k».proof.Proof.Protocol

@[expose] public section

set_option maxRecDepth 8000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- That a program of device `c`, run to its end, meets `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows, and the states of a semaphore -/

/-- A device's semaphores: those of the copies, and the barrier. -/
abbrev J : Type := DmaSem sig ⊕ Unit
abbrev csem : J → SemLoc sig
  | .inl i => .dma i
  | .inr _ => .reg barS
abbrev kcell (cj : Dev nD × J) : GSem nD τ sig := ((cj.1 : Thread nD τ), csem cj.2)

/-- Every semaphore is governed by the schedule and has reached its round; and the levels. -/
def ctx (K : Dev nD × J → ℕ) : sProp 𝕄 :=
  iprop((bigSep Finset.univ fun cj : Dev nD × J => cellInv ER (Rd m) (K cj) (kcell cj))
    ∗ (bigSep Finset.univ fun cj : Dev nD × J => reached ER (kcell cj) 0) ∗ levAts L lv)

instance ctx_persistent (K : Dev nD × J → ℕ) : BI.Persistent (ctx m K) := by unfold ctx; infer_instance

theorem ctx_inv (K : Dev nD × J → ℕ) (cj : Dev nD × J) : ctx m K ⊢ cellInv ER (Rd m) (K cj) (kcell cj) := by
  have h : (bigSep Finset.univ fun cj : Dev nD × J => (cellInv ER (Rd m) (K cj) (kcell cj) : sProp 𝕄)) ⊢ cellInv ER (Rd m) (K cj) (kcell cj) :=
    bigSep_elim (Finset.mem_univ cj)
  unfold ctx
  iintro ⟨H, -⟩
  iapply h
  iexact H
theorem ctx_reached (K : Dev nD × J → ℕ) (cj : Dev nD × J) : ctx m K ⊢ reached ER (kcell cj) 0 := by
  have h : (bigSep Finset.univ fun cj : Dev nD × J => (reached ER (kcell cj) 0 : sProp 𝕄)) ⊢ reached ER (kcell cj) 0 :=
    bigSep_elim (Finset.mem_univ cj)
  unfold ctx
  iintro ⟨-, H, -⟩
  iapply h
  iexact H
theorem ctx_lev (K : Dev nD × J → ℕ) : ctx m K ⊢ levAts L lv := by
  unfold ctx
  iintro ⟨-, -, H⟩
  iexact H

/-- What a device owes, whatever it has waited on. -/
def ow (c : Dev nD) (O : CellTallies nD τ sig Unit) : sProp 𝕄 := iprop(∃ W, owes (c : Thread nD τ) O W)
/-- A copy semaphore not used yet; -/
def rdy (c : Dev nD) (i : DmaSem sig) : sProp 𝕄 := iprop(atPos ER (dCell c i) 0 ∅ 0 ∗ dutyTok ER (dCell c i) 0 false)
/-- a copy to complete on it is certain; -/
def fly (c : Dev nD) (i : DmaSem sig) : sProp 𝕄 := iprop(atPos ER (dCell c i) 0 ∅ 0 ∗ cred (tallyAt (dCell c i) () (amt i)))
/-- its use is over. -/
def fin (c : Dev nD) (i : DmaSem sig) : sProp 𝕄 := semVal (dCell c i) 0

/-! ## Waits and copies, whatever they move -/

variable (K : Dev nD × J → ℕ) (c : Dev nD) {α : Type}
variable {k : PUnit → Prog (TpuEff nD τ sig (Elt F) Λ₀ .tc) α}

/-- Waiting for a copy: its payload comes, and the semaphore is done with. -/
theorem step_wait {Q : α → sProp 𝕄} (i : DmaSem sig) {s : DmaSem sig} (hs : s = i) {sp sp' : Space} {s₁ s₂ : Shape} {e₁ e₂ : EltTy} {src : Memref sig .tc sp' s₂ e₂} {κ' : Kind} {dst : Memref sig κ' sp s₁ e₁}
    {hsrc : src.view.WordExact} {hdst : dst.view.WordExact} (hN : dst.view.dmaCredit = amt i) (n n' : ℕ)
    (hlev : (n = 0 ∧ n' = 0) ∨ (lvD i < 3 ∧ (n = 0 ∨ lvD i < 2))) :
    iprop(ctx m K ∗ fly c i ∗ ow c (OS c n n'))
      ⊢ iprop(((ow c (OS c n n') ∗ fin c i ∗ dPay m c i) -∗ WP c (k ⟨⟩) Q) -∗ WP c (.op (.waitDma2 s src dst hsrc hdst) k) Q) := by
  subst hs
  unfold fly ow
  rw [← hN]
  iintro ⟨#Hc, ⟨Hat, Hcr⟩, %W, HO⟩ Hk
  ihave #HI := (ctx_inv m K (c, .inl s)) $$ Hc
  iapply (Rounds.wp_wait_rest_token 𝒱₀ ER (Rd m) (c : Thread nD τ) none (κ := K (c, .inl s)) (sm := .dma s) (k' := dst.view.dmaCredit)
      (wpE_waitDma2_eq 𝒱₀ (c : Thread nD τ) none Set.univ) (Set.mem_univ _) () (O := OS c n n') (W := W) (R := 0) (m := 0) (T := ∅)
      (by rw [Nat.zero_add, expect_dma, hN])) $$ [Hat Hcr HO]
  · isplitr; · iexact HI
    isplitl [Hcr]; · iexact Hcr
    isplitl [HO]; · iexact HO
    isplitr
    · rcases hlev with ⟨rfl, rfl⟩ | h
      · iapply ((ctx_lev m K).trans (mayWait_zero (F := F) c (.dma s))); iexact Hc
      · iapply ((ctx_lev m K).trans (mayWait (F := F) c (.dma s) n n' h)); iexact Hc
    iexact Hat
  iintro ⟨HO, Hat, -, Hpay⟩
  ihave Hp := (Entails.of_eq (rest_dma m c s)) $$ Hpay
  imod (Rounds.cell_close ER (Rd m) (Set.mem_univ (K (c, .inl s))) (fun h => h) (R := 0 + 1) (duties_later m (dCell c s))) $$ [Hat] with Hz
  · isplitr; · iexact HI
    iexact Hat
  iapply Hk
  isplitl [HO]; · iexists _; iexact HO
  isplitl [Hz]; · unfold fin; iexact Hz
  iexact Hp

/-- Starting a copy within the device. -/
theorem step_copy {Q : α → sProp 𝕄} (i : DmaSem sig) {s : DmaSem sig} (hs : s = i) {sp sp' : Space} {s₁ : Shape} {e₁ : EltTy} {src : Memref sig .tc sp s₁ e₁} {dst : Memref sig .tc sp' s₁ e₁}
    {hsrc : src.view.WordExact} {hdst : dst.view.WordExact} {hsem : DmaTarget.Typed (nD := nD) (τ := τ) (p := .tc) sp (.dma s) (.here dst)}
    (hN : dst.view.dmaCredit = amt i) {q : PosShare TreeShare} {fs : Buf (Elt F) (src.view.loc (c : Thread nD τ))} {fd : Buf (Elt F) (dst.view.loc (c : Thread nD τ))}
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ dPay m c i) :
    iprop(ctx m K ∗ rdy c i ∗ (src.view.loc (c : Thread nD τ) ↦[src.view.set]{q} fs) ∗ (dst.view.loc (c : Thread nD τ) ↦[dst.view.set]{fullShare} fd))
      ⊢ iprop((fly c i -∗ WP c (k ⟨⟩) Q) -∗ WP c (.op (.enqueueDma src (.here dst) (.dma s) hsrc hdst hsem) k) Q) := by
  subst hs
  unfold fly rdy
  iintro ⟨#Hc, ⟨Hat, Ht⟩, Hsrc, Hdst⟩ Hk
  ihave #HI := (ctx_inv m K (c, .inl s)) $$ Hc
  ihave #Hr := (ctx_reached m K (c, .inl s)) $$ Hc
  iapply (Rounds.wp_copy_pointsTo 𝒱₀ ER (Rd m) (c : Thread nD τ) none (κ := K (c, .inl s)) (r := 0) (d := false) (mem_duties_dma m c s) () (amt s) hN rfl hpay)
    $$ [Ht Hsrc Hdst]
  · isplitr; · iexact HI
    isplitl [Hsrc]; · iexact Hsrc
    isplitl [Hdst]; · iexact Hdst
    isplitl [Ht]; · iexact Ht
    iexact Hr
  iintro Hcr
  iapply Hk
  isplitl [Hat] <;> iassumption

/-- Starting a copy to another device. -/
theorem step_send {Q : α → sProp 𝕄} (i i' : DmaSem sig) {n c' : Dev nD} (hn : n = c') {sS sR : DmaSem sig} (hsS : sS = i) (hsR : sR = i')
    {sp sp' : Space} {s₁ : Shape} {e₁ : EltTy} {src : Memref sig .tc sp s₁ e₁} {dst : Memref sig (Dev.tc n : Thread nD τ).2.kind sp' s₁ e₁}
    {hsc : dst.view.ref.isScScratch = false} {hsrc : src.view.WordExact} {hdst : dst.view.WordExact}
    {hsem : DmaTarget.Typed sp (.dma sR) (.remote (Dev.tc n : Thread nD τ) dst (.dma sS) hsc)}
    (hN : dst.view.dmaCredit = amt i) (hN' : amt i' = amt i) {q : PosShare TreeShare}
    {fs : Buf (Elt F) (src.view.loc (c : Thread nD τ))} {fd : Buf (Elt F) (dst.view.loc (Dev.tc n : Thread nD τ))}
    {O₀ O : CellTallies nD τ sig Unit} (hO : O₀ = O + tallyAt (dCell c' i') () (amt i))
    (hpay₁ : (src.view.loc (c : Thread nD τ) ↦[src.view.set]{q} fs) ⊢ dPay m c i)
    (hpay₂ : (dst.view.loc (Dev.tc n : Thread nD τ) ↦[dst.view.set]{fullShare} (dst.view.write (Elt F) fd (src.view.read (Elt F) fs) Finset.univ)) ⊢ dPay m n i') :
    iprop(ctx m K ∗ rdy c i ∗ dutyTok ER (dCell c' i') 0 false ∗ (src.view.loc (c : Thread nD τ) ↦[src.view.set]{q} fs)
        ∗ (dst.view.loc (Dev.tc n : Thread nD τ) ↦[dst.view.set]{fullShare} fd) ∗ ow c O₀)
      ⊢ iprop(((fly c i ∗ ow c O) -∗ WP c (k ⟨⟩) Q)
          -∗ WP c (.op (.enqueueDma src (.remote (Dev.tc n : Thread nD τ) dst (.dma sS) hsc) (.dma sR) hsrc hdst hsem) k) Q) := by
  subst hn hsS hsR
  unfold fly rdy ow
  iintro ⟨#Hc, ⟨Hat, Ht⟩, Ht', Hsrc, Hdst, %W, HO⟩ Hk
  ihave #HI := (ctx_inv m K (c, .inl sS)) $$ Hc
  ihave #HI' := (ctx_inv m K (n, .inl sR)) $$ Hc
  ihave #Hr := (ctx_reached m K (c, .inl sS)) $$ Hc
  ihave #Hr' := (ctx_reached m K (n, .inl sR)) $$ Hc
  iapply (Rounds.wp_send_pointsTo 𝒱₀ ER (Rd m) (c : Thread nD τ) none (κ₁ := K (c, .inl sS)) (κ₂ := K (n, .inl sR))
    (r₁ := 0) (r₂ := 0) (d₁ := false) (d₂ := false) (mem_duties_dma m c sS) (mem_duties_dma m n sR)
    () () (amt sS) hN rfl hN' O hO (W := W) hpay₁ hpay₂) $$ [Ht Ht' Hsrc Hdst HO]
  · isplitr; · iexact HI
    isplitr; · iexact HI'
    isplitl [Hsrc]; · iexact Hsrc
    isplitl [Hdst]; · iexact Hdst
    isplitl [HO]; · iexact HO
    isplitl [Ht]; · iexact Ht
    isplitr; · iexact Hr
    isplitl [Ht']; · iexact Ht'
    iexact Hr'
  iintro ⟨Hcr, HO⟩
  iapply Hk
  isplitl [Hat Hcr]
  · isplitl [Hat] <;> iassumption
  iexists _; iexact HO

omit [FloatOps F] in
/-- What a copy leaves at its destination, named: contents `T` that read there as what was read. -/
theorem landed {c : Dev nD} {sp : Space} {s₁ : Shape} {e₁ : EltTy} {v : View sig .tc sp s₁ e₁} {q : PosShare TreeShare}
    (f T : Buf (Elt F) (v.loc (c : Thread nD τ))) {w : s₁.Idx → Elt F e₁} (h : w = v.read (Elt F) T) :
    (v.loc (c : Thread nD τ) ↦[v.set]{q} (v.write (Elt F) f w Finset.univ) : sProp 𝕄) = (v.loc (c : Thread nD τ) ↦[v.set]{q} T) := by
  subst h
  exact pointsTo_congr fun i hi => by
    rw [View.write_read_eq_piecewise]
    exact Finset.piecewise_eq_of_mem _ _ _ hi

end Cert.KernelIdeal.Run
-- ==== Proof.Moves.lean ====
/-
The steps of the run, at the buffers and semaphores of this kernel.
-/
module

public import proofs.«01_k».proof.Proof.Steps

@[expose] public section

set_option maxRecDepth 8000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × J → ℕ) (c : Dev nD) {α : Type}

/-! ## The barrier -/

/-- Signalling a partner's barrier, handing it what the signal is for. -/
theorem step_signal {Q : α → sProp 𝕄} {k : PUnit → Prog (TpuEff nD τ sig (Elt F) Λ₀ .tc) α} (d : Bool) {n c' : Dev nD} (hn : n = c') {k' : ℕ} (hk : k' = 1)
    {O₀ O : CellTallies nD τ sig Unit} (hO : O₀ = O + tallyAt (barCell c') () 1) :
    iprop(ctx m K ∗ ow c O₀ ∗ dutyTok ER (barCell c') 0 d ∗ barPay c' d)
      ⊢ iprop((ow c O -∗ WP c (k ⟨⟩) Q) -∗ WP c (.op (.semSignal (Dev.tc n : Thread nD τ) barS k') k) Q) := by
  subst hn hk
  unfold ow
  iintro ⟨#Hc, ⟨%W, HO⟩, Ht, Hp⟩ Hk
  ihave #HI := (ctx_inv m K (n, .inr ())) $$ Hc
  ihave #Hr := (ctx_reached m K (n, .inr ())) $$ Hc
  iapply (Rounds.wp_signal 𝒱₀ ER (Rd m) (c : Thread nD τ) none (dst := (n : Thread nD τ)) (κ := K (n, .inr ()))
      (d := d) (by rw [duties_bar]; exact Finset.mem_univ _) rfl () O hO) $$ [HO Ht Hp]
  · isplitr; · iexact HI
    isplitl [HO]; · iexact HO
    isplitl [Ht]; · iexact Ht
    isplitl [Hp]; · rw [show (Rd m).payload ((n : Thread nD τ), .reg barS) 0 d = barPay n d from rfl]; iexact Hp
    iexact Hr
  iintro HO
  iapply Hk
  iexists _; iexact HO

/-- Waiting for both partners' signals: what they hand over, and the semaphore is done with. -/
theorem step_bar {Q : α → sProp 𝕄} {k : PUnit → Prog (TpuEff nD τ sig (Elt F) Λ₀ .tc) α} {k' : ℕ} (hk : k' = 2) :
    iprop(ctx m K ∗ atPos ER (barCell c) 0 ∅ 0 ∗ cred (tallyAt (barCell c) () 2) ∗ ow c (OS c 4 4))
      ⊢ iprop(((ow c (OS c 4 4) ∗ semVal (barCell c) 0 ∗ barPay c false ∗ barPay c true) -∗ WP c (k ⟨⟩) Q)
        -∗ WP c (.op (.semWait barS k') k) Q) := by
  subst hk
  unfold ow
  iintro ⟨#Hc, Hat, Hcr, %W, HO⟩ Hk
  ihave #HI := (ctx_inv m K (c, .inr ())) $$ Hc
  iapply (Rounds.wp_wait_rest_token 𝒱₀ ER (Rd m) (c : Thread nD τ) none (κ := K (c, .inr ()))
      (wpE_semWait_eq 𝒱₀ (c : Thread nD τ) none Set.univ) (Set.mem_univ _) () (O := OS c 4 4) (W := W) (R := 0) (m := 0) (T := ∅)
      (by rw [Nat.zero_add, expect_bar])) $$ [Hat Hcr HO]
  · isplitr; · iexact HI
    isplitl [Hcr]; · iexact Hcr
    isplitl [HO]; · iexact HO
    isplitr
    · iapply ((ctx_lev m K).trans (mayWait (F := F) c (.reg barS) 4 4 ⟨show (1 : ℕ) < 3 by decide, .inr (show (1 : ℕ) < 2 by decide)⟩)); iexact Hc
    iexact Hat
  iintro ⟨HO, Hat, -, Hpay⟩
  ihave Hp := (Entails.of_eq (rest_bar m c)) $$ Hpay
  icases Hp with ⟨Hp0, Hp1⟩
  imod (Rounds.cell_close ER (Rd m) (Set.mem_univ (K (c, .inr ()))) (fun h => h) (R := 0 + 1) (duties_later m (barCell c))) $$ [Hat] with Hz
  · isplitr; · iexact HI
    iexact Hat
  iapply Hk
  isplitl [HO]; · iexists _; iexact HO
  isplitl [Hz]; · iexact Hz
  isplitl [Hp0] <;> iassumption

/-! ## The loads of the operands -/

abbrev mA0 : Memref sig .tc .hbm S512x2048 .f32 := Memref.whole main_arg0
abbrev mA1 : Memref sig .tc .hbm S512x2048 .f32 := Memref.whole main_arg1
abbrev mV1 : Memref sig .tc .hbm S512x512 .bf16 := Memref.whole main_v1
abbrev mD : Memref sig .tc .vmem S256x2048 .f32 := Memref.whole cc0_scratch0
abbrev mW : Memref sig .tc .vmem S512x2048 .f32 := Memref.whole cc0_scratch1
abbrev mYs : Memref sig .tc .vmem S4x256x128 .bf16 := Memref.whole cc0_scratch2
abbrev mYr : Memref sig .tc .vmem S4x256x128 .bf16 := Memref.whole cc0_scratch3
abbrev mO : Memref sig .tc .vmem S512x512 .bf16 := Memref.whole cc0_scratch4

/-- The first operand's rows into their buffer. -/
theorem step_ld0 {Q : α → sProp 𝕄} {k : PUnit → Prog (TpuEff nD τ sig (Elt F) Λ₀ .tc) α} {s : DmaSem sig} (hs : s = ldS 0)
    {o : Fin 2 → ℕ} {inb} (ho : o = ![256 * (xr c).val, 0]) {h} {hsrc hdst hsem} {fd : (cc0_scratch0 : Ref sig .tc).ty.Contents (Elt F)} :
    iprop(ctx m K ∗ rdy c (ldS 0) ∗ pt main_arg0 c (rA (xr c)).set fullShare (A0 m c) ∗ pt cc0_scratch0 c Finset.univ fullShare fd)
      ⊢ iprop((fly c (ldS 0) -∗ WP c (k ⟨⟩) Q)
        -∗ WP c (.op (.enqueueDma (mA0.slice (Rect.unit (s := S512x2048) o S256x2048.size inb) h) (.here mD) (.dma s) hsrc hdst hsem) k) Q) := by
  subst ho
  have e : (mA0.slice (rA (xr c)) (fun _ => rfl)).view.set = (rA (xr c)).set := View.set_slice_whole _ _
  have e' : mD.view.set = Finset.univ := View.set_whole _
  rw [← e, ← e']
  refine step_copy m K c (ldS 0) hs (src := mA0.slice (rA (xr c)) (fun _ => rfl)) (dst := mD) (amt_ld0.symm ▸ rfl) ?_
  rw [dPay_ld]
  unfold ldPay
  rw [e, e']
  refine sep_mono_left (Entails.of_eq ?_)
  have h := landed (F := F) (c := c) (q := fullShare) (v := mD.view) fd (D m c) (w := (mA0.slice (rA (xr c)) (fun _ => rfl)).view.read (Elt F) (A0 m c)) rfl
  rw [e'] at h
  exact h

/-- The second operand's first 128 rows into their buffer; -/
theorem step_ld1 {Q : α → sProp 𝕄} {k : PUnit → Prog (TpuEff nD τ sig (Elt F) Λ₀ .tc) α} {s : DmaSem sig} (hs : s = ldS 1)
    {o : Fin 2 → ℕ} {inb} (ho : o = ![128 * (0 : Fin 4).val, 0]) {h h'} {hsrc hdst hsem} {fd : (cc0_scratch1 : Ref sig .tc).ty.Contents (Elt F)} :
    iprop(ctx m K ∗ rdy c (ldS 1) ∗ pt main_arg1 c (rW 0).set fullShare (A1 m c) ∗ pt cc0_scratch1 c (rW 0).set fullShare fd)
      ⊢ iprop((fly c (ldS 1) -∗ WP c (k ⟨⟩) Q)
        -∗ WP c (.op (.enqueueDma (mA1.slice (Rect.unit (s := S512x2048) o S128x2048.size inb) h)
            (.here (mW.slice (Rect.unit (s := S512x2048) o S128x2048.size inb) h')) (.dma s) hsrc hdst hsem) k) Q) := by
  subst ho
  have e : (mA1.slice (rW 0) (fun _ => rfl)).view.set = (rW 0).set := View.set_slice_whole _ _
  have e' : (mW.slice (rW 0) (fun _ => rfl)).view.set = (rW 0).set := View.set_slice_whole _ _
  have h := landed (F := F) (c := c) (q := fullShare) (v := (mW.slice (rW 0) (fun _ => rfl)).view) fd (A1 m c)
    (w := (mA1.slice (rW 0) (fun _ => rfl)).view.read (Elt F) (A1 m c)) rfl
  rw [e'] at h
  have hp := step_copy (Q := Q) (k := k) m K c (ldS 1) hs (src := mA1.slice (rW 0) (fun _ => rfl)) (dst := mW.slice (rW 0) (fun _ => rfl))
    (hsrc := hsrc) (hdst := hdst) (hsem := hsem) (amt_ld1.symm ▸ rfl) (q := fullShare) (fs := A1 m c) (fd := fd)
    (by rw [dPay_ld, e, e']; exact sep_mono_left (Entails.of_eq h))
  rw [e, e'] at hp
  exact hp
/-- and its other rows. -/
theorem step_ld2 {Q : α → sProp 𝕄} {k : PUnit → Prog (TpuEff nD τ sig (Elt F) Λ₀ .tc) α} {s : DmaSem sig} (hs : s = ldS 2)
    {o : Fin 2 → ℕ} {inb} (ho : o = ![128, 0]) {h h'} {hsrc hdst hsem} {fd : (cc0_scratch1 : Ref sig .tc).ty.Contents (Elt F)} :
    iprop(ctx m K ∗ rdy c (ldS 2) ∗ pt main_arg1 c rW1.set fullShare (A1 m c) ∗ pt cc0_scratch1 c rW1.set fullShare fd)
      ⊢ iprop((fly c (ldS 2) -∗ WP c (k ⟨⟩) Q)
        -∗ WP c (.op (.enqueueDma (mA1.slice (Rect.unit (s := S512x2048) o S384x2048.size inb) h)
            (.here (mW.slice (Rect.unit (s := S512x2048) o S384x2048.size inb) h')) (.dma s) hsrc hdst hsem) k) Q) := by
  subst ho
  have e : (mA1.slice rW1 (fun _ => rfl)).view.set = rW1.set := View.set_slice_whole _ _
  have e' : (mW.slice rW1 (fun _ => rfl)).view.set = rW1.set := View.set_slice_whole _ _
  have h := landed (F := F) (c := c) (q := fullShare) (v := (mW.slice rW1 (fun _ => rfl)).view) fd (A1 m c)
    (w := (mA1.slice rW1 (fun _ => rfl)).view.read (Elt F) (A1 m c)) rfl
  rw [e'] at h
  have hp := step_copy (Q := Q) (k := k) m K c (ldS 2) hs (src := mA1.slice rW1 (fun _ => rfl)) (dst := mW.slice rW1 (fun _ => rfl))
    (hsrc := hsrc) (hdst := hdst) (hsem := hsem) (amt_ld2.symm ▸ rfl) (q := fullShare) (fs := A1 m c) (fd := fd)
    (by rw [dPay_ld, e, e']; exact sep_mono_left (Entails.of_eq h))
  rw [e, e'] at hp
  exact hp

/-! ## Loads and stores -/

/-- A load of elements that are held, by the value it brings; -/
theorem load_at {Q : α → sProp 𝕄} {cs : CoreSpace} {s₁ : Shape} {e₁ : EltTy} {mm : Memref sig .tc cs s₁ e₁} {r : Rect s₁} {hl : mm.view.LoadsAt r}
    {k : (r.shape.Idx → Elt F e₁) → Prog (TpuEff nD τ sig (Elt F) Λ₀ .tc) α} {f : Buf (Elt F) ((mm.access r).loc (c : Thread nD τ))}
    {S : Finset (Idx ((mm.access r).loc (c : Thread nD τ)))} (hS : (mm.access r).set ⊆ S) {v : r.shape.Idx → Elt F e₁} (hv : (mm.access r).read (Elt F) f = v) :
    ((mm.access r).loc (c : Thread nD τ) ↦[S]{fullShare} f : sProp 𝕄)
      ⊢ iprop((((mm.access r).loc (c : Thread nD τ) ↦[S]{fullShare} f) -∗ WP c (k v) Q) -∗ WP c (.op (.load mm r hl) k) Q) := by
  subst hv
  exact wp_load_rect 𝒱₀ (c : Thread nD τ) none Set.univ hS
/-- and a store, by the contents it leaves. -/
theorem store_at {Q : α → sProp 𝕄} {cs : CoreSpace} {s₁ : Shape} {e₁ : EltTy} {mm : Memref sig .tc cs s₁ e₁} {r : Rect s₁} {w : r.shape.Idx → Elt F e₁}
    {hx : (mm.access r).Stores Finset.univ} {hm : Finset.univ = Finset.univ ∨ ∀ a, r.stride a = 1}
    {k : PUnit → Prog (TpuEff nD τ sig (Elt F) Λ₀ .tc) α} {f : Buf (Elt F) ((mm.access r).loc (c : Thread nD τ))}
    (T : Buf (Elt F) ((mm.access r).loc (c : Thread nD τ))) (hT : w = (mm.access r).read (Elt F) T) :
    ((mm.access r).loc (c : Thread nD τ) ↦[(mm.access r).set]{fullShare} f : sProp 𝕄)
      ⊢ iprop((((mm.access r).loc (c : Thread nD τ) ↦[(mm.access r).set]{fullShare} T) -∗ WP c (k ⟨⟩) Q)
        -∗ WP c (.op (.store mm r w Finset.univ hx hm) k) Q) := by
  rw [← landed f T hT]
  exact wp_store 𝒱₀ (c : Thread nD τ) none Set.univ (le_of_eq (View.setOn_univ _))

/-- The whole of the first operand's buffer. -/
theorem load_d {Q : α → sProp 𝕄} {o : Fin 2 → ℕ} {inb} (ho : o = 0) {hl}
    {k : Vec F S256x2048 .f32 → Prog (TpuEff nD τ sig (Elt F) Λ₀ .tc) α} :
    pt cc0_scratch0 c Finset.univ fullShare (D m c)
      ⊢ iprop((pt cc0_scratch0 c Finset.univ fullShare (D m c) -∗ WP c (k (D m c)) Q)
        -∗ WP c (.op (.load mD (Rect.unit (s := S256x2048) o S256x2048.size inb).toLoadRect hl) k) Q) := by
  subst ho
  have hv : (mD.access (Rect.unit (s := S256x2048) 0 S256x2048.size inb)).read (Elt F) (D m c) = D m c :=
    funext fun x => congrArg (D m c) (funext fun a => Fin.ext (by
      show 0 + 1 * (x a).val = (x a).val
      omega))
  exact load_at c (mm := mD) (r := Rect.unit (s := S256x2048) 0 S256x2048.size inb) (Finset.subset_univ _) hv

/-- The `k`-th 128 rows of the second operand's buffer. -/
theorem load_w {Q : α → sProp 𝕄} (j : Fin 4) {S : Finset S512x2048.Idx} (hS : (rW j).set ⊆ S) {o : Fin 2 → ℕ} {inb} (ho : o = ![128 * j.val, 0]) {hl}
    {k : Vec F S128x2048 .f32 → Prog (TpuEff nD τ sig (Elt F) Λ₀ .tc) α} :
    pt cc0_scratch1 c S fullShare (A1 m c)
      ⊢ iprop((pt cc0_scratch1 c S fullShare (A1 m c) -∗ WP c (k (Wk m c j)) Q)
        -∗ WP c (.op (.load mW (Rect.unit (s := S512x2048) o S128x2048.size inb).toLoadRect hl) k) Q) := by
  subst ho
  exact wp_load_rect 𝒱₀ (c : Thread nD τ) none Set.univ (m := mW) (r := rW j) (by
    rw [show (mW.access (rW j)).set = (rW j).set from View.set_slice_whole _ _]; exact hS)

/-- Slot `j` of the send buffer along `y`, whatever it holds; -/
theorem load_s {Q : α → sProp 𝕄} (j : Fin 4) {f : (cc0_scratch2 : Ref sig .tc).ty.Contents (Elt F)} {v : Vec F S1x256x128 .bf16}
    (hv : (mYs.access (rS j)).read (Elt F) f = v) {o : Fin 3 → ℕ} {inb} (ho : o = ![j.val, 0, 0]) {hl}
    {k : Vec F S1x256x128 .bf16 → Prog (TpuEff nD τ sig (Elt F) Λ₀ .tc) α} :
    pt cc0_scratch2 c (rS j).set fullShare f
      ⊢ iprop((pt cc0_scratch2 c (rS j).set fullShare f -∗ WP c (k v) Q)
        -∗ WP c (.op (.load mYs (Rect.unit (s := S4x256x128) o S1x256x128.size inb).toLoadRect hl) k) Q) := by
  subst ho hv
  exact wp_load_rect 𝒱₀ (c : Thread nD τ) none Set.univ (m := mYs) (r := rS j) (by
    rw [show (mYs.access (rS j)).set = (rS j).set from View.set_slice_whole _ _])
/-- of the receive buffer; -/
theorem load_r {Q : α → sProp 𝕄} (j : Fin 4) {f : (cc0_scratch3 : Ref sig .tc).ty.Contents (Elt F)} {v : Vec F S1x256x128 .bf16}
    (hv : (mYr.access (rS j)).read (Elt F) f = v) {o : Fin 3 → ℕ} {inb} (ho : o = ![j.val, 0, 0]) {hl}
    {k : Vec F S1x256x128 .bf16 → Prog (TpuEff nD τ sig (Elt F) Λ₀ .tc) α} :
    pt cc0_scratch3 c (rS j).set fullShare f
      ⊢ iprop((pt cc0_scratch3 c (rS j).set fullShare f -∗ WP c (k v) Q)
        -∗ WP c (.op (.load mYr (Rect.unit (s := S4x256x128) o S1x256x128.size inb).toLoadRect hl) k) Q) := by
  subst ho hv
  exact wp_load_rect 𝒱₀ (c : Thread nD τ) none Set.univ (m := mYr) (r := rS j) (by
    rw [show (mYr.access (rS j)).set = (rS j).set from View.set_slice_whole _ _])
/-- and block `(r, j)` of the result buffer. -/
theorem load_o {Q : α → sProp 𝕄} (r : Fin 2) (j : Fin 4) {f : (cc0_scratch4 : Ref sig .tc).ty.Contents (Elt F)} {v : Vec F S256x128 .bf16}
    (hv : (mO.access (rB r j)).read (Elt F) f = v) {o : Fin 2 → ℕ} {inb} (ho : o = ![256 * r.val, 128 * j.val]) {hl}
    {k : Vec F S256x128 .bf16 → Prog (TpuEff nD τ sig (Elt F) Λ₀ .tc) α} :
    pt cc0_scratch4 c (rB r j).set fullShare f
      ⊢ iprop((pt cc0_scratch4 c (rB r j).set fullShare f -∗ WP c (k v) Q)
        -∗ WP c (.op (.load mO (Rect.unit (s := S512x512) o S256x128.size inb).toLoadRect hl) k) Q) := by
  subst ho hv
  exact wp_load_rect 𝒱₀ (c : Thread nD τ) none Set.univ (m := mO) (r := rB r j) (by
    rw [show (mO.access (rB r j)).set = (rB r j).set from View.set_slice_whole _ _])

/-- Storing the `j`-th partial product into its slot. -/
theorem store_s {Q : α → sProp 𝕄} (j : Fin 4) {f : (cc0_scratch2 : Ref sig .tc).ty.Contents (Elt F)} {w : Vec F S1x256x128 .bf16}
    (hw : w = P m c j) {o : Fin 3 → ℕ} {inb} (ho : o = ![j.val, 0, 0]) {hx hm} {k : PUnit → Prog (TpuEff nD τ sig (Elt F) Λ₀ .tc) α} :
    pt cc0_scratch2 c (rS j).set fullShare f
      ⊢ iprop((pt cc0_scratch2 c (rS j).set fullShare (Yc m c) -∗ WP c (k ⟨⟩) Q)
        -∗ WP c (.op (.store mYs (Rect.unit (s := S4x256x128) o S1x256x128.size inb) w Finset.univ hx hm) k) Q) := by
  subst ho hw
  have e : (mYs.access (rS j)).set = (rS j).set := View.set_slice_whole _ _
  have h := store_at (Q := Q) c (mm := mYs) (r := rS j) (hx := hx) (hm := hm) (k := k) (f := f) (Yc m c) (read_ysend m c j).symm
  rw [e] at h
  exact h

/-- Storing the `j`-th sum into its block of the result buffer. -/
theorem store_o {Q : α → sProp 𝕄} (j : Fin 4) {f : (cc0_scratch4 : Ref sig .tc).ty.Contents (Elt F)} {w : Vec F S256x128 .bf16}
    (hw : w = Bk m c j) {o : Fin 2 → ℕ} {inb} (ho : o = ![256 * (xr c).val, 128 * j.val]) {hx hm} {k : PUnit → Prog (TpuEff nD τ sig (Elt F) Λ₀ .tc) α} :
    pt cc0_scratch4 c (rB (xr c) j).set fullShare f
      ⊢ iprop((pt cc0_scratch4 c (rB (xr c) j).set fullShare (G m c) -∗ WP c (k ⟨⟩) Q)
        -∗ WP c (.op (.store mO (Rect.unit (s := S512x512) o S256x128.size inb) w Finset.univ hx hm) k) Q) := by
  subst ho hw
  have e : (mO.access (rB (xr c) j)).set = (rB (xr c) j).set := View.set_slice_whole _ _
  have h := store_at (Q := Q) c (mm := mO) (r := rB (xr c) j) (w := Bk m c j) (hx := hx) (hm := hm) (k := k) (f := f) (G m c)
    (by rw [read_outv, dOf_xr])
  rw [e] at h
  exact h

/-! ## Sends along `y` and `x`, and the copies out -/

abbrev slot (mm : Memref sig .tc .vmem S4x256x128 .bf16) (j : Fin 4) : Memref sig .tc .vmem S256x128 .bf16 :=
  (mm.slice (rS j) (fun _ => rfl)).squeeze S256x128 squeezes_S1x256x128_S256x128
theorem slot_set_ys (j : Fin 4) : (slot mYs j).view.set = (rS j).set := (View.set_reshape _ _).trans (View.set_slice_whole _ _)
theorem slot_set_yr (j : Fin 4) : (slot mYr j).view.set = (rS j).set := (View.set_reshape _ _).trans (View.set_slice_whole _ _)

/-- Sending slot `j` along `y`, `n + 1` sends still to come. -/
theorem send_y {Q : α → sProp 𝕄} {k : PUnit → Prog (TpuEff nD τ sig (Elt F) Λ₀ .tc) α} (j : Fin 4) (n : ℕ) (hj : j = ⟨3 - n, by omega⟩) (n' : ℕ)
    {d : Dev nD} (hd : d = yp c) {sS sR : DmaSem sig} (hsS : sS = ysS j) (hsR : sR = yrS j) {o : Fin 3 → ℕ} {inb} (ho : o = ![j.val, 0, 0]) {h h'}
    {hsc hsrc hdst hsem} {fd : (cc0_scratch3 : Ref sig .tc).ty.Contents (Elt F)} :
    iprop(ctx m K ∗ rdy c (ysS j) ∗ dutyTok ER (dCell (yp c) (yrS j)) 0 false ∗ pt cc0_scratch2 c (rS j).set fullShare (Yc m c)
        ∗ pt cc0_scratch3 (yp c) (rS j).set fullShare fd ∗ ow c (OS c (n + 1) n'))
      ⊢ iprop(((fly c (ysS j) ∗ ow c (OS c n n')) -∗ WP c (k ⟨⟩) Q)
        -∗ WP c (.op (.enqueueDma ((mYs.slice (Rect.unit (s := S4x256x128) o S1x256x128.size inb) h).squeeze S256x128 squeezes_S1x256x128_S256x128)
            (.remote (Dev.tc d : Thread nD τ) ((mYr.slice (Rect.unit (s := S4x256x128) o S1x256x128.size inb) h').squeeze S256x128 squeezes_S1x256x128_S256x128) (.dma sS) hsc)
            (.dma sR) hsrc hdst hsem) k) Q) := by
  subst ho hd
  have hl := landed (F := F) (c := yp c) (q := fullShare) (v := (slot mYr j).view) fd (Yc m c) (w := (slot mYs j).view.read (Elt F) (Yc m c)) rfl
  have hp := step_send (Q := Q) (k := k) m K c (ysS j) (yrS j) (n := yp c) rfl hsS hsR (src := slot mYs j) (dst := slot mYr j)
    (hsc := hsc) (hsrc := hsrc) (hdst := hdst) (hsem := hsem) ((amt_nB (ysS j) (by have := j.isLt; constructor <;> show _ <;> dsimp only <;> omega)).symm ▸ rfl)
    ((amt_nB (yrS j) (by have := j.isLt; constructor <;> show _ <;> dsimp only <;> omega)).trans (amt_nB (ysS j) (by have := j.isLt; constructor <;> show _ <;> dsimp only <;> omega)).symm)
    (q := fullShare) (fs := Yc m c) (fd := fd) (O₀ := OS c (n + 1) n') (O := OS c n n')
    (by subst hj; rw [amt_nB (ysS _) (by constructor <;> show _ <;> dsimp only <;> omega)]; exact (add_assoc _ _ _).symm)
    (by rw [dPay_ys, slot_set_ys]; exact .rfl)
    (by rw [dPay_yr]; unfold yrPay; rw [yp_yp, hl, slot_set_yr])
  rw [slot_set_ys, slot_set_yr] at hp
  exact hp

/-- Sending the `j`-th sum along `x`, `n + 1` sends still to come: half of the block's share stays. -/
theorem send_x {Q : α → sProp 𝕄} {k : PUnit → Prog (TpuEff nD τ sig (Elt F) Λ₀ .tc) α} (j : Fin 4) (n : ℕ) (hj : j = ⟨3 - n, by omega⟩)
    {d : Dev nD} (hd : d = xp c) {sS sR : DmaSem sig} (hsS : sS = xsS j) (hsR : sR = xrS j) {o : Fin 2 → ℕ} {inb} (ho : o = ![256 * (xr c).val, 128 * j.val]) {h h'}
    {hsc hsrc hdst hsem} {fd : (cc0_scratch4 : Ref sig .tc).ty.Contents (Elt F)} (n'' : ℕ) :
    iprop(ctx m K ∗ rdy c (xsS j) ∗ dutyTok ER (dCell (xp c) (xrS j)) 0 false ∗ pt cc0_scratch4 c (rB (xr c) j).set fullShare (G m c)
        ∗ pt cc0_scratch4 (xp c) (rB (xr c) j).set fullShare fd ∗ ow c (OS c n'' (n + 1)))
      ⊢ iprop(((fly c (xsS j) ∗ ow c (OS c n'' n) ∗ pt cc0_scratch4 c (rB (xr c) j).set fullShare.right (G m c)) -∗ WP c (k ⟨⟩) Q)
        -∗ WP c (.op (.enqueueDma (mO.slice (Rect.unit (s := S512x512) o S256x128.size inb) h)
            (.remote (Dev.tc d : Thread nD τ) (mO.slice (Rect.unit (s := S512x512) o S256x128.size inb) h') (.dma sS) hsc)
            (.dma sR) hsrc hdst hsem) k) Q) := by
  subst ho hd
  have e : (mO.slice (rB (xr c) j) (fun _ => rfl)).view.set = (rB (xr c) j).set := View.set_slice_whole _ _
  have hl := landed (F := F) (c := xp c) (q := fullShare) (v := (mO.slice (rB (xr c) j) (fun _ => rfl)).view) fd (G m c)
    (w := (mO.slice (rB (xr c) j) (fun _ => rfl)).view.read (Elt F) (G m c)) rfl
  have hp := step_send (Q := Q) (k := k) m K c (xsS j) (xrS j) (n := xp c) rfl hsS hsR (src := mO.slice (rB (xr c) j) (fun _ => rfl)) (dst := mO.slice (rB (xr c) j) (fun _ => rfl))
    (hsc := hsc) (hsrc := hsrc) (hdst := hdst) (hsem := hsem) ((amt_nB (xsS j) (by have := j.isLt; constructor <;> show _ <;> dsimp only <;> omega)).symm ▸ rfl)
    ((amt_nB (xrS j) (by have := j.isLt; constructor <;> show _ <;> dsimp only <;> omega)).trans (amt_nB (xsS j) (by have := j.isLt; constructor <;> show _ <;> dsimp only <;> omega)).symm)
    (q := fullShare.left) (fs := G m c) (fd := fd) (O₀ := OS c n'' (n + 1)) (O := OS c n'' n)
    (by subst hj; rw [amt_nB (xsS _) (by constructor <;> show _ <;> dsimp only <;> omega)]; exact add_right_comm _ _ _)
    (by rw [dPay_xs, e]; exact .rfl)
    (by rw [dPay_xr]; unfold xrPay; rw [xo_xp, G_xp, hl, e])
  rw [e] at hp
  iintro ⟨#Hc, Hr, Ht, Hs, Hd, Ho⟩ Hk
  ihave Hs := (pointsTo_share (PosShare.mem_left_op_right fullShare)).1 $$ Hs
  icases Hs with ⟨Hl, Hs⟩
  iapply hp $$ [Hr Ht Hl Hd Ho]
  · isplitr; · iexact Hc
    isplitl [Hr]; · iexact Hr
    isplitl [Ht]; · iexact Ht
    isplitl [Hl]; · iexact Hl
    isplitl [Hd] <;> iassumption
  iintro ⟨Hf, Ho⟩
  iapply Hk
  isplitl [Hf]; · iexact Hf
  isplitl [Ho] <;> iassumption

/-- Copying out the half of the result the device computed; -/
theorem step_out0 {Q : α → sProp 𝕄} {k : PUnit → Prog (TpuEff nD τ sig (Elt F) Λ₀ .tc) α} {s : DmaSem sig} (hs : s = ouS 0)
    {o : Fin 2 → ℕ} {inb} (ho : o = ![256 * (xr c).val, 0]) {h h'} {hsrc hdst hsem} {fd : (main_v1 : Ref sig .tc).ty.Contents (Elt F)} :
    iprop(ctx m K ∗ rdy c (ouS 0) ∗ pt cc0_scratch4 c (rO (xr c)).set fullShare.right (G m c) ∗ pt main_v1 c (rO (xr c)).set fullShare fd)
      ⊢ iprop((fly c (ouS 0) -∗ WP c (k ⟨⟩) Q)
        -∗ WP c (.op (.enqueueDma (mO.slice (Rect.unit (s := S512x512) o S256x512.size inb) h)
            (.here (mV1.slice (Rect.unit (s := S512x512) o S256x512.size inb) h')) (.dma s) hsrc hdst hsem) k) Q) := by
  subst ho
  have e : (mO.slice (rO (xr c)) (fun _ => rfl)).view.set = (rO (xr c)).set := View.set_slice_whole _ _
  have e' : (mV1.slice (rO (xr c)) (fun _ => rfl)).view.set = (rO (xr c)).set := View.set_slice_whole _ _
  have hl := landed (F := F) (c := c) (q := fullShare) (v := (mV1.slice (rO (xr c)) (fun _ => rfl)).view) fd (G m c)
    (w := (mO.slice (rO (xr c)) (fun _ => rfl)).view.read (Elt F) (G m c)) rfl
  have hp := step_copy (Q := Q) (k := k) m K c (ouS 0) hs (src := mO.slice (rO (xr c)) (fun _ => rfl)) (dst := mV1.slice (rO (xr c)) (fun _ => rfl))
    (hsrc := hsrc) (hdst := hdst) (hsem := hsem) (amt_ou0.symm ▸ rfl) (q := fullShare.right) (fs := G m c) (fd := fd)
    (by rw [dPay_ou, hl, e, e']; exact .rfl)
  rw [e, e'] at hp
  exact hp

/-- What the copy out of a received block hands over. -/
theorem ouPay_succ (j : Fin 4) : ouPay m c j.succ
    = iprop(pt main_v1 c (rB (xo c) j).set fullShare (G m c) ∗ pt cc0_scratch4 c (rB (xo c) j).set fullShare (G m c)) := by
  fin_cases j <;> rfl

/-- and each block received. -/
theorem step_out {Q : α → sProp 𝕄} {k : PUnit → Prog (TpuEff nD τ sig (Elt F) Λ₀ .tc) α} (j : Fin 4) {s : DmaSem sig} (hs : s = ouS j.succ)
    {o : Fin 2 → ℕ} {inb} (ho : o = ![256 * (xo c).val, 128 * j.val]) {h h'} {hsrc hdst hsem} {fd : (main_v1 : Ref sig .tc).ty.Contents (Elt F)} :
    iprop(ctx m K ∗ rdy c (ouS j.succ) ∗ pt cc0_scratch4 c (rB (xo c) j).set fullShare (G m c) ∗ pt main_v1 c (rB (xo c) j).set fullShare fd)
      ⊢ iprop((fly c (ouS j.succ) -∗ WP c (k ⟨⟩) Q)
        -∗ WP c (.op (.enqueueDma (mO.slice (Rect.unit (s := S512x512) o S256x128.size inb) h)
            (.here (mV1.slice (Rect.unit (s := S512x512) o S256x128.size inb) h')) (.dma s) hsrc hdst hsem) k) Q) := by
  subst ho
  have e : (mO.slice (rB (xo c) j) (fun _ => rfl)).view.set = (rB (xo c) j).set := View.set_slice_whole _ _
  have e' : (mV1.slice (rB (xo c) j) (fun _ => rfl)).view.set = (rB (xo c) j).set := View.set_slice_whole _ _
  have hl := landed (F := F) (c := c) (q := fullShare) (v := (mV1.slice (rB (xo c) j) (fun _ => rfl)).view) fd (G m c)
    (w := (mO.slice (rB (xo c) j) (fun _ => rfl)).view.read (Elt F) (G m c)) rfl
  have hp := step_copy (Q := Q) (k := k) m K c (ouS j.succ) hs (src := mO.slice (rB (xo c) j) (fun _ => rfl)) (dst := mV1.slice (rB (xo c) j) (fun _ => rfl))
    (hsrc := hsrc) (hdst := hdst) (hsem := hsem) ((amt_nB (ouS j.succ) (by have := j.isLt; constructor <;> show _ <;> simp only [Fin.val_succ] <;> omega)).symm ▸ rfl)
    (q := fullShare) (fs := G m c) (fd := fd) (by rw [dPay_ou, ouPay_succ, hl, e, e'])
  rw [e, e'] at hp
  exact hp

end Cert.KernelIdeal.Run
-- ==== Proof.Waits.lean ====
/-
The waits of the run, by what they wait for, and how held blocks are cut and put together.
-/
module

public import proofs.«01_k».proof.Proof.Moves

@[expose] public section

set_option maxRecDepth 8000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting and joining -/

omit [FloatOps F] in
/-- Half of the rows of the result buffer is its four blocks; -/
theorem outv_blocks (c : Dev nD) (r : Fin 2) (q : PosShare TreeShare) (f : (cc0_scratch4 : Ref sig .tc).ty.Contents (Elt F)) :
    (pt cc0_scratch4 c (rO r).set q f : sProp 𝕄) = four fun k => pt cc0_scratch4 c (rB r k).set q f := by
  rw [← four_eq, rO_eq]
  exact pointsTo_biUnion _ _ fun k _ k' _ h => rB_disjoint (.inr h)
omit [FloatOps F] in
/-- and so is half of the rows of the result. -/
theorem v1_blocks (c : Dev nD) (r : Fin 2) (q : PosShare TreeShare) (f : (main_v1 : Ref sig .tc).ty.Contents (Elt F)) :
    (pt main_v1 c (rO r).set q f : sProp 𝕄) = four fun k => pt main_v1 c (rB r k).set q f := by
  rw [← four_eq, rO_eq]
  exact pointsTo_biUnion _ _ fun k _ k' _ h => rB_disjoint (.inr h)
omit [FloatOps F] in
/-- The result buffer is its two halves, -/
theorem outv_halves (c : Dev nD) (q : PosShare TreeShare) (f : (cc0_scratch4 : Ref sig .tc).ty.Contents (Elt F)) :
    (pt cc0_scratch4 c Finset.univ q f : sProp 𝕄) ⊣⊢ iprop(pt cc0_scratch4 c (rO (xr c)).set q f ∗ pt cc0_scratch4 c (rO (xo c)).set q f) := by
  rw [rO_univ c]
  exact pointsTo_union (rO_disjoint (xo_ne_xr c).symm)
omit [FloatOps F] in
/-- and so is the result. -/
theorem v1_halves (c : Dev nD) (q : PosShare TreeShare) (f : (main_v1 : Ref sig .tc).ty.Contents (Elt F)) :
    (pt main_v1 c Finset.univ q f : sProp 𝕄) ⊣⊢ iprop(pt main_v1 c (rO (xr c)).set q f ∗ pt main_v1 c (rO (xo c)).set q f) := by
  rw [rO_univ c]
  exact pointsTo_union (rO_disjoint (xo_ne_xr c).symm)
omit [FloatOps F] in
/-- An exchange buffer along `y` is its four slots. -/
theorem ysend_slots (c : Dev nD) (q : PosShare TreeShare) (f : (cc0_scratch2 : Ref sig .tc).ty.Contents (Elt F)) :
    (pt cc0_scratch2 c Finset.univ q f : sProp 𝕄) = four fun k => pt cc0_scratch2 c (rS k).set q f := by
  rw [← four_eq, rS_univ]
  exact pointsTo_biUnion _ _ fun k _ k' _ h => rS_disjoint h
omit [FloatOps F] in
theorem yrecv_slots (c : Dev nD) (q : PosShare TreeShare) (f : (cc0_scratch3 : Ref sig .tc).ty.Contents (Elt F)) :
    (pt cc0_scratch3 c Finset.univ q f : sProp 𝕄) = four fun k => pt cc0_scratch3 c (rS k).set q f := by
  rw [← four_eq, rS_univ]
  exact pointsTo_biUnion _ _ fun k _ k' _ h => rS_disjoint h
omit [FloatOps F] in
/-- The second operand and its buffer are their first 128 rows and the others. -/
theorem arg1_parts (c : Dev nD) (f : (main_arg1 : Ref sig .tc).ty.Contents (Elt F)) :
    (pt main_arg1 c Finset.univ fullShare f : sProp 𝕄) ⊣⊢ iprop(pt main_arg1 c (rW 0).set fullShare f ∗ pt main_arg1 c rW1.set fullShare f) := by
  rw [rW_univ]
  exact pointsTo_union rW_disjoint
omit [FloatOps F] in
theorem wv_parts (c : Dev nD) (f : (cc0_scratch1 : Ref sig .tc).ty.Contents (Elt F)) :
    (pt cc0_scratch1 c Finset.univ fullShare f : sProp 𝕄) ⊣⊢ iprop(pt cc0_scratch1 c (rW 0).set fullShare f ∗ pt cc0_scratch1 c rW1.set fullShare f) := by
  rw [rW_univ]
  exact pointsTo_union rW_disjoint

/-! ## Waits -/

variable (m : (ℓ : Loc nD τ sig) → Buf (Elt F) ℓ) (K : Dev nD × J → ℕ) (c : Dev nD) {α : Type}

theorem lvD_own (i : DmaSem sig) (h : i.val < 7 ∨ (10 < i.val ∧ i.val < 15) ∨ 18 < i.val) : lvD i = 0 := by
  unfold lvD
  rcases h with h | h | h
  · rw [if_pos h]
  · rw [if_neg (by omega), if_neg (by omega), if_pos (by omega)]
  · rw [if_neg (by omega), if_neg (by omega), if_neg (by omega), if_neg (by omega)]

/-- A copy within the device, or a send, can always be waited for. -/
theorem wait_own {Q : α → sProp 𝕄} {k : PUnit → Prog (TpuEff nD τ sig (Elt F) Λ₀ .tc) α} (i : DmaSem sig) (h : i.val < 7 ∨ (10 < i.val ∧ i.val < 15) ∨ 18 < i.val)
    {s : DmaSem sig} (hs : s = i) {sp sp' : Space} {s₁ s₂ : Shape} {e₁ e₂ : EltTy} {src : Memref sig .tc sp' s₂ e₂} {κ' : Kind} {dst : Memref sig κ' sp s₁ e₁}
    {hsrc : src.view.WordExact} {hdst : dst.view.WordExact} (hN : dst.view.dmaCredit = amt i) {n n' : ℕ} {P : sProp 𝕄} (hP : dPay m c i = P) :
    iprop(ctx m K ∗ fly c i ∗ ow c (OS c n n'))
      ⊢ iprop(((ow c (OS c n n') ∗ fin c i ∗ P) -∗ WP c (k ⟨⟩) Q) -∗ WP c (.op (.waitDma2 s src dst hsrc hdst) k) Q) := by
  subst hP
  exact step_wait m K c i hs hN n n' (by rw [lvD_own i h]; omega)

/-- A receipt along `y` can be waited for once the sends along `y` are on their way; -/
theorem wait_yr {Q : α → sProp 𝕄} {k : PUnit → Prog (TpuEff nD τ sig (Elt F) Λ₀ .tc) α} (j : Fin 4)
    {s : DmaSem sig} (hs : s = yrS j) {sp sp' : Space} {s₁ s₂ : Shape} {e₁ e₂ : EltTy} {src : Memref sig .tc sp' s₂ e₂} {κ' : Kind} {dst : Memref sig κ' sp s₁ e₁}
    {hsrc : src.view.WordExact} {hdst : dst.view.WordExact} (hN : dst.view.dmaCredit = amt (yrS j)) {n' : ℕ} :
    iprop(ctx m K ∗ fly c (yrS j) ∗ ow c (OS c 0 n'))
      ⊢ iprop(((ow c (OS c 0 n') ∗ fin c (yrS j) ∗ pt cc0_scratch3 c (rS j).set fullShare (Yc m (yp c))) -∗ WP c (k ⟨⟩) Q)
        -∗ WP c (.op (.waitDma2 s src dst hsrc hdst) k) Q) := by
  rw [← show dPay m c (yrS j) = pt cc0_scratch3 c (rS j).set fullShare (Yc m (yp c)) from dPay_yr m c j]
  exact step_wait m K c (yrS j) hs hN 0 n' (by rw [lvD_yr]; omega)

/-- one along `x`, once all sends are. -/
theorem wait_xr {Q : α → sProp 𝕄} {k : PUnit → Prog (TpuEff nD τ sig (Elt F) Λ₀ .tc) α} (j : Fin 4)
    {s : DmaSem sig} (hs : s = xrS j) {sp sp' : Space} {s₁ s₂ : Shape} {e₁ e₂ : EltTy} {src : Memref sig .tc sp' s₂ e₂} {κ' : Kind} {dst : Memref sig κ' sp s₁ e₁}
    {hsrc : src.view.WordExact} {hdst : dst.view.WordExact} (hN : dst.view.dmaCredit = amt (xrS j)) :
    iprop(ctx m K ∗ fly c (xrS j) ∗ ow c (OS c 0 0))
      ⊢ iprop(((ow c (OS c 0 0) ∗ fin c (xrS j) ∗ pt cc0_scratch4 c (rB (xo c) j).set fullShare (G m c)) -∗ WP c (k ⟨⟩) Q)
        -∗ WP c (.op (.waitDma2 s src dst hsrc hdst) k) Q) := by
  rw [← show dPay m c (xrS j) = pt cc0_scratch4 c (rB (xo c) j).set fullShare (G m c) from dPay_xr m c j]
  exact step_wait m K c (xrS j) hs hN 0 0 (.inl ⟨rfl, rfl⟩)

end Cert.KernelIdeal.Run
-- ==== Proof.BodyY.lean ====
/-
The first half of the kernel's body, part by part: the barrier, the partial products and their way along `y`.
-/
module

public import proofs.«01_k».proof.Proof.Waits

@[expose] public section

set_option maxRecDepth 16000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The parts of the body, at this kernel's buffers and semaphores -/

abbrev part1 : Prog (TpuEff nD τ sig (Elt F) Λ₀ .tc) (Σ' (d0 : Dev nD) (v2 : BitVec 32) (v5 : BitVec 32) (v8 : BitVec 32), Sems sig S_) :=
  k0_part1 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10
abbrev part2 (d0 : Dev nD) (v2 v5 : BitVec 32) (v9 : Sems sig S_) : Prog (TpuEff nD τ sig (Elt F) Λ₀ .tc) (Σ' (v40 : FVec F S256x2048 .bf16) (v52 : BitVec 32), BitVec 32) :=
  k0_part2 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v9
abbrev part3 (d0 : Dev nD) (v2 v5 v8 : BitVec 32) (v40 : FVec F S256x2048 .bf16) (v52 v54 : BitVec 32) : Prog (TpuEff nD τ sig (Elt F) Λ₀ .tc) (BitVec 32) :=
  k0_part3 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v40 v52 v54
abbrev part4 (d0 : Dev nD) (v2 v5 v8 : BitVec 32) (v40 : FVec F S256x2048 .bf16) : Prog (TpuEff nD τ sig (Elt F) Λ₀ .tc) (Σ' (v100 : BitVec 32) (v116 : FVec F S128x2048 .bf16), FVec F S256x128 .f32) :=
  k0_part4 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v40
abbrev part5 (d0 : Dev nD) (v2 v5 v8 : BitVec 32) (v40 : FVec F S256x2048 .bf16) (v116 : FVec F S128x2048 .bf16) (cst : FVec F S256x128 .f32) : Prog (TpuEff nD τ sig (Elt F) Λ₀ .tc) (Σ' (v122 : BitVec 32), BitVec 32) :=
  k0_part5 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v40 v116 cst
abbrev part6 (d0 : Dev nD) (v2 v5 v8 v52 v137 : BitVec 32) : Prog (TpuEff nD τ sig (Elt F) Λ₀ .tc) (BitVec 32) :=
  k0_part6 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v52 v137
abbrev part7 (d0 : Dev nD) (v2 v8 v78 : BitVec 32) : Prog (TpuEff nD τ sig (Elt F) Λ₀ .tc) (FVec F S256x128 .bf16) :=
  k0_part7 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v8 v78
abbrev part8 (d0 : Dev nD) (v2 v5 v8 v100 : BitVec 32) (v205 : FVec F S256x128 .bf16) : Prog (TpuEff nD τ sig (Elt F) Λ₀ .tc) (Σ' (v206 : BitVec 32), BitVec 32) :=
  k0_part8 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v100 v205
abbrev part9 (d0 : Dev nD) (v2 v5 v8 v219 : BitVec 32) : Prog (TpuEff nD τ sig (Elt F) Λ₀ .tc) (Σ' (v247 : BitVec 32), BitVec 32) :=
  k0_part9 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v219
abbrev part10 (d0 : Dev nD) (v2 v5 v8 v122 v260 : BitVec 32) : Prog (TpuEff nD τ sig (Elt F) Λ₀ .tc) (Σ' (v288 : BitVec 32) (v292 : BitVec 32), BitVec 32) :=
  k0_part10 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v122 v260
abbrev part11 (d0 : Dev nD) (v2 v5 v8 v165 v292 v293 : BitVec 32) : Prog (TpuEff nD τ sig (Elt F) Λ₀ .tc) PUnit :=
  k0_part11 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v165 v292 v293
abbrev part12 (d0 : Dev nD) (v2 v5 v8 v206 : BitVec 32) : Prog (TpuEff nD τ sig (Elt F) Λ₀ .tc) PUnit :=
  k0_part12 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v206
abbrev part13 (d0 : Dev nD) (v2 v5 v8 v247 v288 : BitVec 32) : Prog (TpuEff nD τ sig (Elt F) Λ₀ .tc) PUnit :=
  k0_part13 mA0 (Memref.isWhole_whole _) mA1 (Memref.isWhole_whole _) mV1 (Memref.isWhole_whole _) mD (Memref.isWhole_whole _) mW (Memref.isWhole_whole _)
    mYs (Memref.isWhole_whole _) mYr (Memref.isWhole_whole _) mO (Memref.isWhole_whole _) cc0_scratch5 cc0_scratch6 cc0_scratch7 cc0_scratch8 cc0_scratch9 cc0_scratch10 d0 v2 v5 v8 v247 v288

variable (m : (ℓ : Loc nD τ sig) → Buf (Elt F) ℓ) (K : Dev nD × J → ℕ) (c : Dev nD) {α : Type}

/-- The barrier's signals, and the first operand's load. -/
theorem part1_run {Q : α → sProp 𝕄} {k : _ → Prog (TpuEff nD τ sig (Elt F) Λ₀ .tc) α} {fd : (cc0_scratch0 : Ref sig .tc).ty.Contents (Elt F)} :
    iprop(ctx m K ∗ ow c (O₀ c) ∗ dutyTok ER (barCell (yp c)) 0 false ∗ dutyTok ER (barCell (xp c)) 0 true ∗ barPay (yp c) false ∗ barPay (xp c) true
        ∗ rdy c (ldS 0) ∗ pt main_arg0 c (rA (xr c)).set fullShare (A0 m c) ∗ pt cc0_scratch0 c Finset.univ fullShare fd)
      ⊢ iprop((∀ v2 v5 v8, (ow c (OS c 4 4) ∗ fly c (ldS 0)) -∗ WP c (k ⟨c, v2, v5, v8, SemArray.scalar (sig.barrier 0 rfl)⟩) Q)
        -∗ WP c (part1 >>= k) Q) := by
  unfold part1
  rw [k0_part1_eq_skeleton]
  unfold k0_part1_skel
  simp only [semSignalWord, Prog.lift, Prog.bind_op, Prog.bind_ret, Prog.pure_eq_ret, wp_deviceId]
  iintro ⟨#Hc, Ho, Hty, Htx, Hpy, Hpx, Hr, Ha, Hd⟩ Hk
  iapply (step_signal m K c false (dev1_eq c) (by decide) (O := O₁ c) rfl) $$ [Ho Hty Hpy]
  · isplitr; · iexact Hc
    isplitl [Ho]; · iexact Ho
    isplitl [Hty] <;> iassumption
  iintro Ho
  iapply (step_signal m K c true (dev2_eq c) (by decide) (O := OS c 4 4) rfl) $$ [Ho Htx Hpx]
  · isplitr; · iexact Hc
    isplitl [Ho]; · iexact Ho
    isplitl [Htx] <;> iassumption
  iintro Ho
  iapply (step_ld0 m K c rfl (k0_off1_eq c)) $$ [Hr Ha Hd]
  · isplitr; · iexact Hc
    isplitl [Hr]; · iexact Hr
    isplitl [Ha] <;> iassumption
  iintro Hf
  iapply Hk
  isplitl [Ho] <;> iassumption

/-- The second operand's loads, the first block's partial product, and the barrier's wait. -/
theorem part2_run {Q : α → sProp 𝕄} (v2 v5 : BitVec 32) {k : _ → Prog (TpuEff nD τ sig (Elt F) Λ₀ .tc) α} {f1 f2 : (cc0_scratch1 : Ref sig .tc).ty.Contents (Elt F)} {fs : (cc0_scratch2 : Ref sig .tc).ty.Contents (Elt F)} :
    iprop(ctx m K ∗ ow c (OS c 4 4) ∗ fly c (ldS 0) ∗ rdy c (ldS 1) ∗ rdy c (ldS 2)
        ∗ pt main_arg1 c (rW 0).set fullShare (A1 m c) ∗ pt main_arg1 c rW1.set fullShare (A1 m c)
        ∗ pt cc0_scratch1 c (rW 0).set fullShare f1 ∗ pt cc0_scratch1 c rW1.set fullShare f2
        ∗ pt cc0_scratch2 c (rS 0).set fullShare fs ∗ atPos ER (barCell c) 0 ∅ 0 ∗ cred (tallyAt (barCell c) () 2))
      ⊢ iprop((∀ v52 v54, (ow c (OS c 4 4) ∗ fin c (ldS 0) ∗ fin c (ldS 1) ∗ fly c (ldS 2)
          ∗ pt cc0_scratch0 c Finset.univ fullShare (D m c) ∗ pt main_arg0 c (rA (xr c)).set fullShare (A0 m c)
          ∗ pt cc0_scratch1 c (rW 0).set fullShare (A1 m c) ∗ pt main_arg1 c (rW 0).set fullShare (A1 m c)
          ∗ pt cc0_scratch2 c (rS 0).set fullShare (Yc m c) ∗ semVal (barCell c) 0 ∗ barPay c false ∗ barPay c true)
            -∗ WP c (k ⟨k0_pay1 (D m c), v52, v54⟩) Q)
        -∗ WP c (part2 c v2 v5 (SemArray.scalar (sig.barrier 0 rfl)) >>= k) Q) := by
  unfold part2
  rw [k0_part2_eq_skeleton]
  unfold k0_part2_skel
  simp only [semWaitWord, Prog.lift, Prog.bind_op, Prog.bind_ret, Prog.pure_eq_ret]
  iintro ⟨#Hc, Ho, Hf0, Hr1, Hr2, Ha, Ha', Hw, Hw', Hs, Hat, Hcr⟩ Hk
  iapply (step_ld1 m K c rfl rfl) $$ [Hr1 Ha Hw]
  · isplitr; · iexact Hc
    isplitl [Hr1]; · iexact Hr1
    isplitl [Ha] <;> iassumption
  iintro Hf1
  iapply (step_ld2 m K c rfl rfl) $$ [Hr2 Ha' Hw']
  · isplitr; · iexact Hc
    isplitl [Hr2]; · iexact Hr2
    isplitl [Ha'] <;> iassumption
  iintro Hf2
  iapply (wait_own m K c (ldS 0) (by decide) rfl (amt_ld0.symm ▸ rfl) (dPay_ld m c 0)) $$ [Hf0 Ho]
  · isplitr; · iexact Hc
    isplitl [Hf0] <;> iassumption
  unfold ldPay
  iintro ⟨Ho, Hz0, Hd, Ha0⟩
  iapply (load_d m c (funext fun a => by fin_cases a <;> rfl)) $$ Hd
  iintro Hd
  iapply (wait_own m K c (ldS 1) (by decide) rfl (amt_ld1.symm ▸ rfl) (dPay_ld m c 1)) $$ [Hf1 Ho]
  · isplitr; · iexact Hc
    isplitl [Hf1] <;> iassumption
  unfold ldPay
  iintro ⟨Ho, Hz1, Hw, Ha⟩
  iapply (load_w m c 0 (Finset.Subset.refl _) rfl) $$ Hw
  iintro Hw
  iapply (load_s c 0 rfl rfl) $$ Hs
  iintro Hs
  iapply (store_s m c 0 rfl rfl) $$ Hs
  iintro Hs
  iapply (step_bar m K c (by decide)) $$ [Hat Hcr Ho]
  · isplitr; · iexact Hc
    isplitl [Hat]; · iexact Hat
    isplitl [Hcr] <;> iassumption
  iintro ⟨Ho, Hzb, Hp0, Hp1⟩
  iapply Hk
  isplitl [Ho]; · iexact Ho
  isplitl [Hz0]; · iexact Hz0
  isplitl [Hz1]; · iexact Hz1
  isplitl [Hf2]; · iexact Hf2
  isplitl [Hd]; · iexact Hd
  isplitl [Ha0]; · iexact Ha0
  isplitl [Hw]; · iexact Hw
  isplitl [Ha]; · iexact Ha
  isplitl [Hs]; · iexact Hs
  isplitl [Hzb]; · iexact Hzb
  isplitl [Hp0] <;> iassumption

/-- Sending the first block along `y`; the second block's partial product. -/
theorem part3_run {Q : α → sProp 𝕄} (v2 v5 v8 v52 v54 : BitVec 32) {fd0 : (cc0_scratch3 : Ref sig .tc).ty.Contents (Elt F)} {f1 : (cc0_scratch2 : Ref sig .tc).ty.Contents (Elt F)} {k : _ → Prog (TpuEff nD τ sig (Elt F) Λ₀ .tc) α} :
    iprop(ctx m K ∗ ow c (OS c 4 4) ∗ rdy c (ysS 0) ∗ dutyTok ER (dCell (yp c) (yrS 0)) 0 false
         ∗ pt cc0_scratch2 c (rS 0).set fullShare (Yc m c) ∗ pt cc0_scratch3 (yp c) (rS 0).set fullShare fd0 ∗ fly c (ldS 2)
         ∗ pt cc0_scratch2 c (rS 1).set fullShare f1)
      ⊢ iprop((∀ v78, (ow c (OS c 3 4) ∗ fly c (ysS 0) ∗ fin c (ldS 2) ∗ pt cc0_scratch1 c rW1.set fullShare (A1 m c)
           ∗ pt main_arg1 c rW1.set fullShare (A1 m c) ∗ pt cc0_scratch2 c (rS 1).set fullShare (Yc m c))
            -∗ WP c (k v78) Q)
        -∗ WP c (part3 c v2 v5 v8 (k0_pay1 (D m c)) v52 v54 >>= k) Q) := by
  unfold part3
  rw [k0_part3_eq_skeleton]
  unfold k0_part3_skel
  simp only [Prog.lift, Prog.bind_op, Prog.bind_ret, Prog.pure_eq_ret]
  iintro ⟨#Hc, Ho, Hr_ys0, Ht_y0, Hs0, Hyd0, Hf_ld2, Hs1⟩ Hk
  iapply (send_y m K c 0 3 rfl 4 (dev3_eq c) rfl rfl rfl) $$ [Hr_ys0 Ht_y0 Hs0 Hyd0 Ho]
  · isplitr; · iexact Hc
    isplitl [Hr_ys0]; · iexact Hr_ys0
    isplitl [Ht_y0]; · iexact Ht_y0
    isplitl [Hs0]; · iexact Hs0
    isplitl [Hyd0] <;> iassumption
  iintro ⟨Hf_ys0, Ho⟩
  iapply (wait_own m K c (ldS 2) (by decide) rfl (amt_ld2.symm ▸ rfl) (dPay_ld m c 2)) $$ [Hf_ld2 Ho]
  · isplitr; · iexact Hc
    isplitl [Hf_ld2] <;> iassumption
  unfold ldPay
  iintro ⟨Ho, Hz_ld2, Hw', Ha'⟩
  iapply (load_w m c 1 (rW_sub (by decide)) rfl) $$ Hw'
  iintro Hw'
  iapply (load_s c 1 rfl rfl) $$ Hs1
  iintro Hs1
  iapply (store_s m c 1 rfl rfl) $$ Hs1
  iintro Hs1
  iapply Hk
  isplitl [Ho]; · iexact Ho
  isplitl [Hf_ys0]; · iexact Hf_ys0
  isplitl [Hz_ld2]; · iexact Hz_ld2
  isplitl [Hw']; · iexact Hw'
  isplitl [Ha'] <;> iassumption

/-- Sending the second block; the third block's partial product and its sending; the last rows loaded. -/
theorem part4_run {Q : α → sProp 𝕄} (v2 v5 v8 : BitVec 32) {fd1 fd2 : (cc0_scratch3 : Ref sig .tc).ty.Contents (Elt F)} {f2 : (cc0_scratch2 : Ref sig .tc).ty.Contents (Elt F)} {k : _ → Prog (TpuEff nD τ sig (Elt F) Λ₀ .tc) α} :
    iprop(ctx m K ∗ ow c (OS c 3 4) ∗ rdy c (ysS 1) ∗ dutyTok ER (dCell (yp c) (yrS 1)) 0 false
         ∗ pt cc0_scratch2 c (rS 1).set fullShare (Yc m c) ∗ pt cc0_scratch3 (yp c) (rS 1).set fullShare fd1
         ∗ pt cc0_scratch1 c rW1.set fullShare (A1 m c) ∗ pt cc0_scratch2 c (rS 2).set fullShare f2 ∗ rdy c (ysS 2)
         ∗ dutyTok ER (dCell (yp c) (yrS 2)) 0 false ∗ pt cc0_scratch3 (yp c) (rS 2).set fullShare fd2)
      ⊢ iprop((∀ v100, (ow c (OS c 1 4) ∗ fly c (ysS 1) ∗ fly c (ysS 2) ∗ pt cc0_scratch1 c rW1.set fullShare (A1 m c))
            -∗ WP c (k ⟨v100, k0_pay5 (Wk m c 3), constant S256x128 .f32 0x00000000#32⟩) Q)
        -∗ WP c (part4 c v2 v5 v8 (k0_pay1 (D m c)) >>= k) Q) := by
  unfold part4
  rw [k0_part4_eq_skeleton]
  unfold k0_part4_skel
  simp only [Prog.lift, Prog.bind_op, Prog.bind_ret, Prog.pure_eq_ret]
  iintro ⟨#Hc, Ho, Hr_ys1, Ht_y1, Hs1, Hyd1, Hw', Hs2, Hr_ys2, Ht_y2, Hyd2⟩ Hk
  iapply (send_y m K c 1 2 rfl 4 (dev4_eq c) rfl rfl rfl) $$ [Hr_ys1 Ht_y1 Hs1 Hyd1 Ho]
  · isplitr; · iexact Hc
    isplitl [Hr_ys1]; · iexact Hr_ys1
    isplitl [Ht_y1]; · iexact Ht_y1
    isplitl [Hs1]; · iexact Hs1
    isplitl [Hyd1] <;> iassumption
  iintro ⟨Hf_ys1, Ho⟩
  iapply (load_w m c 2 (rW_sub (by decide)) rfl) $$ Hw'
  iintro Hw'
  iapply (load_s c 2 rfl rfl) $$ Hs2
  iintro Hs2
  iapply (store_s m c 2 rfl rfl) $$ Hs2
  iintro Hs2
  iapply (send_y m K c 2 1 rfl 4 (dev5_eq c) rfl rfl rfl) $$ [Hr_ys2 Ht_y2 Hs2 Hyd2 Ho]
  · isplitr; · iexact Hc
    isplitl [Hr_ys2]; · iexact Hr_ys2
    isplitl [Ht_y2]; · iexact Ht_y2
    isplitl [Hs2]; · iexact Hs2
    isplitl [Hyd2] <;> iassumption
  iintro ⟨Hf_ys2, Ho⟩
  iapply (load_w m c 3 (rW_sub (by decide)) rfl) $$ Hw'
  iintro Hw'
  iapply Hk
  isplitl [Ho]; · iexact Ho
  isplitl [Hf_ys1]; · iexact Hf_ys1
  isplitl [Hf_ys2] <;> iassumption

/-- The last block's partial product and its sending; the first send done. -/
theorem part5_run {Q : α → sProp 𝕄} (v2 v5 v8 : BitVec 32) {fd3 : (cc0_scratch3 : Ref sig .tc).ty.Contents (Elt F)} {f3 : (cc0_scratch2 : Ref sig .tc).ty.Contents (Elt F)} {k : _ → Prog (TpuEff nD τ sig (Elt F) Λ₀ .tc) α} :
    iprop(ctx m K ∗ ow c (OS c 1 4) ∗ pt cc0_scratch2 c (rS 3).set fullShare f3 ∗ rdy c (ysS 3) ∗ dutyTok ER (dCell (yp c) (yrS 3)) 0 false
         ∗ pt cc0_scratch3 (yp c) (rS 3).set fullShare fd3 ∗ fly c (ysS 0))
      ⊢ iprop((∀ v122 v137, (ow c (OS c 0 4) ∗ fly c (ysS 3) ∗ fin c (ysS 0) ∗ pt cc0_scratch2 c (rS 0).set fullShare (Yc m c))
            -∗ WP c (k ⟨v122, v137⟩) Q)
        -∗ WP c (part5 c v2 v5 v8 (k0_pay1 (D m c)) (k0_pay5 (Wk m c 3)) (constant S256x128 .f32 0x00000000#32) >>= k) Q) := by
  unfold part5
  rw [k0_part5_eq_skeleton]
  unfold k0_part5_skel
  simp only [Prog.lift, Prog.bind_op, Prog.bind_ret, Prog.pure_eq_ret]
  iintro ⟨#Hc, Ho, Hs3, Hr_ys3, Ht_y3, Hyd3, Hf_ys0⟩ Hk
  iapply (load_s c 3 rfl rfl) $$ Hs3
  iintro Hs3
  iapply (store_s m c 3 rfl rfl) $$ Hs3
  iintro Hs3
  iapply (send_y m K c 3 0 rfl 4 (dev6_eq c) rfl rfl rfl) $$ [Hr_ys3 Ht_y3 Hs3 Hyd3 Ho]
  · isplitr; · iexact Hc
    isplitl [Hr_ys3]; · iexact Hr_ys3
    isplitl [Ht_y3]; · iexact Ht_y3
    isplitl [Hs3]; · iexact Hs3
    isplitl [Hyd3] <;> iassumption
  iintro ⟨Hf_ys3, Ho⟩
  iapply (wait_own m K c (ysS 0) (by decide) rfl ((amt_nB (ysS 0) (by decide)).symm ▸ rfl) (dPay_ys m c 0)) $$ [Hf_ys0 Ho]
  · isplitr; · iexact Hc
    isplitl [Hf_ys0] <;> iassumption
  unfold ysPay
  iintro ⟨Ho, Hz_ys0, Hs0⟩
  iapply Hk
  isplitl [Ho]; · iexact Ho
  isplitl [Hf_ys3]; · iexact Hf_ys3
  isplitl [Hz_ys0] <;> iassumption

end Cert.KernelIdeal.Run
-- ==== Proof.BodyX.lean ====
/-
The second half of the kernel's body, part by part: the sums, their way along `x`, and the copies out.
-/
module

public import proofs.«01_k».proof.Proof.BodyY

@[expose] public section

set_option maxRecDepth 16000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the received blocks are -/

theorem off_xo (c : Dev nD) : 256 - 256 * (c.val / 8) = 256 * (xo c).val := by revert c; decide
theorem off11 (c : Dev nD) : k0_off11 c = ![256 * (xo c).val, 128 * (0 : Fin 4).val] := by rw [k0_off11_eq, off_xo]; rfl
theorem off12 (c : Dev nD) : k0_off12 c = ![256 * (xo c).val, 128 * (1 : Fin 4).val] := by rw [k0_off12_eq, off_xo]; rfl
theorem off13 (c : Dev nD) : k0_off13 c = ![256 * (xo c).val, 128 * (2 : Fin 4).val] := by rw [k0_off13_eq, off_xo]; rfl
theorem off14 (c : Dev nD) : k0_off14 c = ![256 * (xo c).val, 128 * (3 : Fin 4).val] := by rw [k0_off14_eq, off_xo]; rfl

variable (m : (ℓ : Loc nD τ sig) → Buf (Elt F) ℓ) (K : Dev nD × J → ℕ) (c : Dev nD) {α : Type}

/-! ## The parts -/

/-- The partner's first block; the first sum. -/
theorem part6_run {Q : α → sProp 𝕄} (v2 v5 v8 v52 v137 : BitVec 32) {f0 : (cc0_scratch4 : Ref sig .tc).ty.Contents (Elt F)} {k : _ → Prog (TpuEff nD τ sig (Elt F) Λ₀ .tc) α} :
    iprop(ctx m K ∗ ow c (OS c 0 4) ∗ fly c (yrS 0) ∗ pt cc0_scratch2 c (rS 0).set fullShare (Yc m c)
         ∗ pt cc0_scratch4 c (rB (xr c) 0).set fullShare f0)
      ⊢ iprop((∀ v165, (ow c (OS c 0 4) ∗ fin c (yrS 0) ∗ pt cc0_scratch2 c (rS 0).set fullShare (Yc m c)
           ∗ pt cc0_scratch3 c (rS 0).set fullShare (Yc m (yp c)) ∗ pt cc0_scratch4 c (rB (xr c) 0).set fullShare (G m c))
            -∗ WP c (k v165) Q)
        -∗ WP c (part6 c v2 v5 v8 v52 v137 >>= k) Q) := by
  unfold part6
  rw [k0_part6_eq_skeleton]
  unfold k0_part6_skel
  simp only [Prog.lift, Prog.bind_op, Prog.bind_ret, Prog.pure_eq_ret]
  iintro ⟨#Hc, Ho, Hf_yr0, Hs0, Hb0⟩ Hk
  iapply (wait_yr m K c 0 rfl ((amt_nB (yrS 0) (by decide)).symm ▸ rfl)) $$ [Hf_yr0 Ho]
  · isplitr; · iexact Hc
    isplitl [Hf_yr0] <;> iassumption
  iintro ⟨Ho, Hz_yr0, Hv0⟩
  iapply (load_s c 0 (read_ysend m c 0) rfl) $$ Hs0
  iintro Hs0
  iapply (load_r c 0 (read_yrecv m (yp c) 0) rfl) $$ Hv0
  iintro Hv0
  iapply (load_o c (xr c) 0 rfl (k0_off2_eq c)) $$ Hb0
  iintro Hb0
  iapply (store_o m c 0 rfl (k0_off2_eq c)) $$ Hb0
  iintro Hb0
  iapply Hk
  isplitl [Ho]; · iexact Ho
  isplitl [Hz_yr0]; · iexact Hz_yr0
  isplitl [Hs0]; · iexact Hs0
  isplitl [Hv0] <;> iassumption

/-- Sending the first sum along `x`; the partner's second block; the second sum computed. -/
theorem part7_run {Q : α → sProp 𝕄} (v2 v8 v78 : BitVec 32) {fd0 f1 : (cc0_scratch4 : Ref sig .tc).ty.Contents (Elt F)} {k : _ → Prog (TpuEff nD τ sig (Elt F) Λ₀ .tc) α} :
    iprop(ctx m K ∗ ow c (OS c 0 4) ∗ rdy c (xsS 0) ∗ dutyTok ER (dCell (xp c) (xrS 0)) 0 false
         ∗ pt cc0_scratch4 c (rB (xr c) 0).set fullShare (G m c) ∗ pt cc0_scratch4 (xp c) (rB (xr c) 0).set fullShare fd0 ∗ fly c (ysS 1)
         ∗ fly c (yrS 1) ∗ pt cc0_scratch4 c (rB (xr c) 1).set fullShare f1)
      ⊢ iprop(((ow c (OS c 0 3) ∗ fly c (xsS 0) ∗ pt cc0_scratch4 c (rB (xr c) 0).set fullShare.right (G m c) ∗ fin c (ysS 1)
           ∗ pt cc0_scratch2 c (rS 1).set fullShare (Yc m c) ∗ fin c (yrS 1) ∗ pt cc0_scratch3 c (rS 1).set fullShare (Yc m (yp c))
           ∗ pt cc0_scratch4 c (rB (xr c) 1).set fullShare f1)
            -∗ WP c (k (k0_pay8 (P m c 1) (P m (yp c) 1))) Q)
        -∗ WP c (part7 c v2 v8 v78 >>= k) Q) := by
  unfold part7
  rw [k0_part7_eq_skeleton]
  unfold k0_part7_skel
  simp only [Prog.lift, Prog.bind_op, Prog.bind_ret, Prog.pure_eq_ret]
  iintro ⟨#Hc, Ho, Hr_xs0, Ht_x0, Hb0, Hxd0, Hf_ys1, Hf_yr1, Hb1⟩ Hk
  iapply (send_x m K c 0 3 rfl (dev7_eq c) rfl rfl (k0_off3_eq c) 0) $$ [Hr_xs0 Ht_x0 Hb0 Hxd0 Ho]
  · isplitr; · iexact Hc
    isplitl [Hr_xs0]; · iexact Hr_xs0
    isplitl [Ht_x0]; · iexact Ht_x0
    isplitl [Hb0]; · iexact Hb0
    isplitl [Hxd0] <;> iassumption
  iintro ⟨Hf_xs0, Ho, Hbr0⟩
  iapply (wait_own m K c (ysS 1) (by decide) rfl ((amt_nB (ysS 1) (by decide)).symm ▸ rfl) (dPay_ys m c 1)) $$ [Hf_ys1 Ho]
  · isplitr; · iexact Hc
    isplitl [Hf_ys1] <;> iassumption
  unfold ysPay
  iintro ⟨Ho, Hz_ys1, Hs1⟩
  iapply (wait_yr m K c 1 rfl ((amt_nB (yrS 1) (by decide)).symm ▸ rfl)) $$ [Hf_yr1 Ho]
  · isplitr; · iexact Hc
    isplitl [Hf_yr1] <;> iassumption
  iintro ⟨Ho, Hz_yr1, Hv1⟩
  iapply (load_s c 1 (read_ysend m c 1) rfl) $$ Hs1
  iintro Hs1
  iapply (load_r c 1 (read_yrecv m (yp c) 1) rfl) $$ Hv1
  iintro Hv1
  iapply (load_o c (xr c) 1 rfl (k0_off4_eq c)) $$ Hb1
  iintro Hb1
  iapply Hk
  isplitl [Ho]; · iexact Ho
  isplitl [Hf_xs0]; · iexact Hf_xs0
  isplitl [Hbr0]; · iexact Hbr0
  isplitl [Hz_ys1]; · iexact Hz_ys1
  isplitl [Hs1]; · iexact Hs1
  isplitl [Hz_yr1]; · iexact Hz_yr1
  isplitl [Hv1] <;> iassumption

/-- Storing and sending the second sum; the third send along `y` done. -/
theorem part8_run {Q : α → sProp 𝕄} (v2 v5 v8 v100 : BitVec 32) {fd1 f1 : (cc0_scratch4 : Ref sig .tc).ty.Contents (Elt F)} {k : _ → Prog (TpuEff nD τ sig (Elt F) Λ₀ .tc) α} :
    iprop(ctx m K ∗ ow c (OS c 0 3) ∗ pt cc0_scratch4 c (rB (xr c) 1).set fullShare f1 ∗ rdy c (xsS 1)
         ∗ dutyTok ER (dCell (xp c) (xrS 1)) 0 false ∗ pt cc0_scratch4 (xp c) (rB (xr c) 1).set fullShare fd1 ∗ fly c (ysS 2))
      ⊢ iprop((∀ v206 v219, (ow c (OS c 0 2) ∗ fly c (xsS 1) ∗ pt cc0_scratch4 c (rB (xr c) 1).set fullShare.right (G m c) ∗ fin c (ysS 2)
           ∗ pt cc0_scratch2 c (rS 2).set fullShare (Yc m c))
            -∗ WP c (k ⟨v206, v219⟩) Q)
        -∗ WP c (part8 c v2 v5 v8 v100 (k0_pay8 (P m c 1) (P m (yp c) 1)) >>= k) Q) := by
  unfold part8
  rw [k0_part8_eq_skeleton]
  unfold k0_part8_skel
  simp only [Prog.lift, Prog.bind_op, Prog.bind_ret, Prog.pure_eq_ret]
  iintro ⟨#Hc, Ho, Hb1, Hr_xs1, Ht_x1, Hxd1, Hf_ys2⟩ Hk
  iapply (store_o m c 1 rfl (k0_off4_eq c)) $$ Hb1
  iintro Hb1
  iapply (send_x m K c 1 2 rfl (dev8_eq c) rfl rfl (k0_off5_eq c) 0) $$ [Hr_xs1 Ht_x1 Hb1 Hxd1 Ho]
  · isplitr; · iexact Hc
    isplitl [Hr_xs1]; · iexact Hr_xs1
    isplitl [Ht_x1]; · iexact Ht_x1
    isplitl [Hb1]; · iexact Hb1
    isplitl [Hxd1] <;> iassumption
  iintro ⟨Hf_xs1, Ho, Hbr1⟩
  iapply (wait_own m K c (ysS 2) (by decide) rfl ((amt_nB (ysS 2) (by decide)).symm ▸ rfl) (dPay_ys m c 2)) $$ [Hf_ys2 Ho]
  · isplitr; · iexact Hc
    isplitl [Hf_ys2] <;> iassumption
  unfold ysPay
  iintro ⟨Ho, Hz_ys2, Hs2⟩
  iapply Hk
  isplitl [Ho]; · iexact Ho
  isplitl [Hf_xs1]; · iexact Hf_xs1
  isplitl [Hbr1]; · iexact Hbr1
  isplitl [Hz_ys2] <;> iassumption

/-- The partner's third block; the third sum and its sending. -/
theorem part9_run {Q : α → sProp 𝕄} (v2 v5 v8 v219 : BitVec 32) {fd2 f2 : (cc0_scratch4 : Ref sig .tc).ty.Contents (Elt F)} {k : _ → Prog (TpuEff nD τ sig (Elt F) Λ₀ .tc) α} :
    iprop(ctx m K ∗ ow c (OS c 0 2) ∗ fly c (yrS 2) ∗ pt cc0_scratch2 c (rS 2).set fullShare (Yc m c)
         ∗ pt cc0_scratch4 c (rB (xr c) 2).set fullShare f2 ∗ rdy c (xsS 2) ∗ dutyTok ER (dCell (xp c) (xrS 2)) 0 false
         ∗ pt cc0_scratch4 (xp c) (rB (xr c) 2).set fullShare fd2)
      ⊢ iprop((∀ v247 v260, (ow c (OS c 0 1) ∗ fin c (yrS 2) ∗ pt cc0_scratch2 c (rS 2).set fullShare (Yc m c)
           ∗ pt cc0_scratch3 c (rS 2).set fullShare (Yc m (yp c)) ∗ fly c (xsS 2) ∗ pt cc0_scratch4 c (rB (xr c) 2).set fullShare.right (G m c))
            -∗ WP c (k ⟨v247, v260⟩) Q)
        -∗ WP c (part9 c v2 v5 v8 v219 >>= k) Q) := by
  unfold part9
  rw [k0_part9_eq_skeleton]
  unfold k0_part9_skel
  simp only [Prog.lift, Prog.bind_op, Prog.bind_ret, Prog.pure_eq_ret]
  iintro ⟨#Hc, Ho, Hf_yr2, Hs2, Hb2, Hr_xs2, Ht_x2, Hxd2⟩ Hk
  iapply (wait_yr m K c 2 rfl ((amt_nB (yrS 2) (by decide)).symm ▸ rfl)) $$ [Hf_yr2 Ho]
  · isplitr; · iexact Hc
    isplitl [Hf_yr2] <;> iassumption
  iintro ⟨Ho, Hz_yr2, Hv2⟩
  iapply (load_s c 2 (read_ysend m c 2) rfl) $$ Hs2
  iintro Hs2
  iapply (load_r c 2 (read_yrecv m (yp c) 2) rfl) $$ Hv2
  iintro Hv2
  iapply (load_o c (xr c) 2 rfl (k0_off6_eq c)) $$ Hb2
  iintro Hb2
  iapply (store_o m c 2 rfl (k0_off6_eq c)) $$ Hb2
  iintro Hb2
  iapply (send_x m K c 2 1 rfl (dev9_eq c) rfl rfl (k0_off7_eq c) 0) $$ [Hr_xs2 Ht_x2 Hb2 Hxd2 Ho]
  · isplitr; · iexact Hc
    isplitl [Hr_xs2]; · iexact Hr_xs2
    isplitl [Ht_x2]; · iexact Ht_x2
    isplitl [Hb2]; · iexact Hb2
    isplitl [Hxd2] <;> iassumption
  iintro ⟨Hf_xs2, Ho, Hbr2⟩
  iapply Hk
  isplitl [Ho]; · iexact Ho
  isplitl [Hz_yr2]; · iexact Hz_yr2
  isplitl [Hs2]; · iexact Hs2
  isplitl [Hv2]; · iexact Hv2
  isplitl [Hf_xs2] <;> iassumption

/-- The partner's last block; the last sum. -/
theorem part10_run {Q : α → sProp 𝕄} (v2 v5 v8 v122 v260 : BitVec 32) {f3 : (cc0_scratch4 : Ref sig .tc).ty.Contents (Elt F)} {k : _ → Prog (TpuEff nD τ sig (Elt F) Λ₀ .tc) α} :
    iprop(ctx m K ∗ ow c (OS c 0 1) ∗ fly c (ysS 3) ∗ fly c (yrS 3) ∗ pt cc0_scratch4 c (rB (xr c) 3).set fullShare f3)
      ⊢ iprop((∀ v288 v292 v293, (ow c (OS c 0 1) ∗ fin c (ysS 3) ∗ pt cc0_scratch2 c (rS 3).set fullShare (Yc m c) ∗ fin c (yrS 3)
           ∗ pt cc0_scratch3 c (rS 3).set fullShare (Yc m (yp c)) ∗ pt cc0_scratch4 c (rB (xr c) 3).set fullShare (G m c))
            -∗ WP c (k ⟨v288, v292, v293⟩) Q)
        -∗ WP c (part10 c v2 v5 v8 v122 v260 >>= k) Q) := by
  unfold part10
  rw [k0_part10_eq_skeleton]
  unfold k0_part10_skel
  simp only [Prog.lift, Prog.bind_op, Prog.bind_ret, Prog.pure_eq_ret]
  iintro ⟨#Hc, Ho, Hf_ys3, Hf_yr3, Hb3⟩ Hk
  iapply (wait_own m K c (ysS 3) (by decide) rfl ((amt_nB (ysS 3) (by decide)).symm ▸ rfl) (dPay_ys m c 3)) $$ [Hf_ys3 Ho]
  · isplitr; · iexact Hc
    isplitl [Hf_ys3] <;> iassumption
  unfold ysPay
  iintro ⟨Ho, Hz_ys3, Hs3⟩
  iapply (wait_yr m K c 3 rfl ((amt_nB (yrS 3) (by decide)).symm ▸ rfl)) $$ [Hf_yr3 Ho]
  · isplitr; · iexact Hc
    isplitl [Hf_yr3] <;> iassumption
  iintro ⟨Ho, Hz_yr3, Hv3⟩
  iapply (load_s c 3 (read_ysend m c 3) rfl) $$ Hs3
  iintro Hs3
  iapply (load_r c 3 (read_yrecv m (yp c) 3) rfl) $$ Hv3
  iintro Hv3
  iapply (load_o c (xr c) 3 rfl (k0_off8_eq c)) $$ Hb3
  iintro Hb3
  iapply (store_o m c 3 rfl (k0_off8_eq c)) $$ Hb3
  iintro Hb3
  iapply Hk
  isplitl [Ho]; · iexact Ho
  isplitl [Hz_ys3]; · iexact Hz_ys3
  isplitl [Hs3]; · iexact Hs3
  isplitl [Hz_yr3]; · iexact Hz_yr3
  isplitl [Hv3] <;> iassumption

/-- Sending the last sum; the copy out of the device's own half; the first sum sent, and the partner's received. -/
theorem part11_run {Q : α → sProp 𝕄} (v2 v5 v8 v165 v292 v293 : BitVec 32) {fd3 : (cc0_scratch4 : Ref sig .tc).ty.Contents (Elt F)} {fv : (main_v1 : Ref sig .tc).ty.Contents (Elt F)} {k : _ → Prog (TpuEff nD τ sig (Elt F) Λ₀ .tc) α} :
    iprop(ctx m K ∗ ow c (OS c 0 1) ∗ rdy c (xsS 3) ∗ dutyTok ER (dCell (xp c) (xrS 3)) 0 false
         ∗ pt cc0_scratch4 c (rB (xr c) 3).set fullShare (G m c) ∗ pt cc0_scratch4 (xp c) (rB (xr c) 3).set fullShare fd3
         ∗ pt cc0_scratch4 c (rB (xr c) 0).set fullShare.right (G m c) ∗ pt cc0_scratch4 c (rB (xr c) 1).set fullShare.right (G m c)
         ∗ pt cc0_scratch4 c (rB (xr c) 2).set fullShare.right (G m c) ∗ rdy c (ouS 0) ∗ pt main_v1 c (rO (xr c)).set fullShare fv
         ∗ fly c (xsS 0) ∗ fly c (xrS 0))
      ⊢ iprop(((ow c (OS c 0 0) ∗ fly c (xsS 3) ∗ fly c (ouS 0) ∗ fin c (xsS 0) ∗ pt cc0_scratch4 c (rB (xr c) 0).set fullShare.left (G m c)
           ∗ fin c (xrS 0) ∗ pt cc0_scratch4 c (rB (xo c) 0).set fullShare (G m c))
            -∗ WP c (k ⟨⟩) Q)
        -∗ WP c (part11 c v2 v5 v8 v165 v292 v293 >>= k) Q) := by
  unfold part11
  rw [k0_part11_eq_skeleton]
  unfold k0_part11_skel
  simp only [Prog.lift, Prog.bind_op, Prog.bind_ret, Prog.pure_eq_ret]
  iintro ⟨#Hc, Ho, Hr_xs3, Ht_x3, Hb3, Hxd3, Hbr0, Hbr1, Hbr2, Hr_ou0, Hy, Hf_xs0, Hf_xr0⟩ Hk
  iapply (send_x m K c 3 0 rfl (dev10_eq c) rfl rfl (k0_off9_eq c) 0) $$ [Hr_xs3 Ht_x3 Hb3 Hxd3 Ho]
  · isplitr; · iexact Hc
    isplitl [Hr_xs3]; · iexact Hr_xs3
    isplitl [Ht_x3]; · iexact Ht_x3
    isplitl [Hb3]; · iexact Hb3
    isplitl [Hxd3] <;> iassumption
  iintro ⟨Hf_xs3, Ho, Hbr3⟩
  ihave Hbr := (Entails.of_eq (outv_blocks c (xr c) fullShare.right (G m c)).symm) $$ [Hbr0 Hbr1 Hbr2 Hbr3]
  · isplitl [Hbr0]; · iexact Hbr0
    isplitl [Hbr1]; · iexact Hbr1
    isplitl [Hbr2] <;> iassumption
  iapply (step_out0 m K c rfl (k0_off10_eq c)) $$ [Hr_ou0 Hbr Hy]
  · isplitr; · iexact Hc
    isplitl [Hr_ou0]; · iexact Hr_ou0
    isplitl [Hbr] <;> iassumption
  iintro Hf_ou0
  iapply (wait_own m K c (xsS 0) (by decide) rfl ((amt_nB (xsS 0) (by decide)).symm ▸ rfl) (dPay_xs m c 0)) $$ [Hf_xs0 Ho]
  · isplitr; · iexact Hc
    isplitl [Hf_xs0] <;> iassumption
  unfold xsPay
  iintro ⟨Ho, Hz_xs0, Hbl0⟩
  iapply (wait_xr m K c 0 rfl ((amt_nB (xrS 0) (by decide)).symm ▸ rfl)) $$ [Hf_xr0 Ho]
  · isplitr; · iexact Hc
    isplitl [Hf_xr0] <;> iassumption
  iintro ⟨Ho, Hz_xr0, Hx0⟩
  iapply Hk
  isplitl [Ho]; · iexact Ho
  isplitl [Hf_xs3]; · iexact Hf_xs3
  isplitl [Hf_ou0]; · iexact Hf_ou0
  isplitl [Hz_xs0]; · iexact Hz_xs0
  isplitl [Hbl0]; · iexact Hbl0
  isplitl [Hz_xr0] <;> iassumption

/-- The copy out of the first block received; the second sum sent and the partner's received and copied out; the third sent. -/
theorem part12_run {Q : α → sProp 𝕄} (v2 v5 v8 v206 : BitVec 32) {fv0 fv1 : (main_v1 : Ref sig .tc).ty.Contents (Elt F)} {k : _ → Prog (TpuEff nD τ sig (Elt F) Λ₀ .tc) α} :
    iprop(ctx m K ∗ ow c (OS c 0 0) ∗ rdy c (ouS 1) ∗ pt cc0_scratch4 c (rB (xo c) 0).set fullShare (G m c)
         ∗ pt main_v1 c (rB (xo c) 0).set fullShare fv0 ∗ fly c (xsS 1) ∗ fly c (xrS 1) ∗ rdy c (ouS 2)
         ∗ pt main_v1 c (rB (xo c) 1).set fullShare fv1 ∗ fly c (xsS 2))
      ⊢ iprop(((ow c (OS c 0 0) ∗ fly c (ouS 1) ∗ fin c (xsS 1) ∗ pt cc0_scratch4 c (rB (xr c) 1).set fullShare.left (G m c) ∗ fin c (xrS 1)
           ∗ fly c (ouS 2) ∗ fin c (xsS 2) ∗ pt cc0_scratch4 c (rB (xr c) 2).set fullShare.left (G m c))
            -∗ WP c (k ⟨⟩) Q)
        -∗ WP c (part12 c v2 v5 v8 v206 >>= k) Q) := by
  unfold part12
  rw [k0_part12_eq_skeleton]
  unfold k0_part12_skel
  simp only [Prog.lift, Prog.bind_op, Prog.bind_ret, Prog.pure_eq_ret]
  iintro ⟨#Hc, Ho, Hr_ou1, Hx0, Hy0, Hf_xs1, Hf_xr1, Hr_ou2, Hy1, Hf_xs2⟩ Hk
  iapply (step_out m K c 0 rfl (off11 c)) $$ [Hr_ou1 Hx0 Hy0]
  · isplitr; · iexact Hc
    isplitl [Hr_ou1]; · iexact Hr_ou1
    isplitl [Hx0] <;> iassumption
  iintro Hf_ou1
  iapply (wait_own m K c (xsS 1) (by decide) rfl ((amt_nB (xsS 1) (by decide)).symm ▸ rfl) (dPay_xs m c 1)) $$ [Hf_xs1 Ho]
  · isplitr; · iexact Hc
    isplitl [Hf_xs1] <;> iassumption
  unfold xsPay
  iintro ⟨Ho, Hz_xs1, Hbl1⟩
  iapply (wait_xr m K c 1 rfl ((amt_nB (xrS 1) (by decide)).symm ▸ rfl)) $$ [Hf_xr1 Ho]
  · isplitr; · iexact Hc
    isplitl [Hf_xr1] <;> iassumption
  iintro ⟨Ho, Hz_xr1, Hx1⟩
  iapply (step_out m K c 1 rfl (off12 c)) $$ [Hr_ou2 Hx1 Hy1]
  · isplitr; · iexact Hc
    isplitl [Hr_ou2]; · iexact Hr_ou2
    isplitl [Hx1] <;> iassumption
  iintro Hf_ou2
  iapply (wait_own m K c (xsS 2) (by decide) rfl ((amt_nB (xsS 2) (by decide)).symm ▸ rfl) (dPay_xs m c 2)) $$ [Hf_xs2 Ho]
  · isplitr; · iexact Hc
    isplitl [Hf_xs2] <;> iassumption
  unfold xsPay
  iintro ⟨Ho, Hz_xs2, Hbl2⟩
  iapply Hk
  isplitl [Ho]; · iexact Ho
  isplitl [Hf_ou1]; · iexact Hf_ou1
  isplitl [Hz_xs1]; · iexact Hz_xs1
  isplitl [Hbl1]; · iexact Hbl1
  isplitl [Hz_xr1]; · iexact Hz_xr1
  isplitl [Hf_ou2]; · iexact Hf_ou2
  isplitl [Hz_xs2] <;> iassumption

/-- The partner's third sum received and copied out; the last sent, and the partner's received. -/
theorem part13_run {Q : α → sProp 𝕄} (v2 v5 v8 v247 v288 : BitVec 32) {fv2 : (main_v1 : Ref sig .tc).ty.Contents (Elt F)} {k : _ → Prog (TpuEff nD τ sig (Elt F) Λ₀ .tc) α} :
    iprop(ctx m K ∗ ow c (OS c 0 0) ∗ fly c (xrS 2) ∗ rdy c (ouS 3) ∗ pt main_v1 c (rB (xo c) 2).set fullShare fv2 ∗ fly c (xsS 3)
         ∗ fly c (xrS 3))
      ⊢ iprop(((ow c (OS c 0 0) ∗ fin c (xrS 2) ∗ fly c (ouS 3) ∗ fin c (xsS 3) ∗ pt cc0_scratch4 c (rB (xr c) 3).set fullShare.left (G m c)
           ∗ fin c (xrS 3) ∗ pt cc0_scratch4 c (rB (xo c) 3).set fullShare (G m c))
            -∗ WP c (k ⟨⟩) Q)
        -∗ WP c (part13 c v2 v5 v8 v247 v288 >>= k) Q) := by
  unfold part13
  rw [k0_part13_eq_skeleton]
  unfold k0_part13_skel
  simp only [Prog.lift, Prog.bind_op, Prog.bind_ret, Prog.pure_eq_ret]
  iintro ⟨#Hc, Ho, Hf_xr2, Hr_ou3, Hy2, Hf_xs3, Hf_xr3⟩ Hk
  iapply (wait_xr m K c 2 rfl ((amt_nB (xrS 2) (by decide)).symm ▸ rfl)) $$ [Hf_xr2 Ho]
  · isplitr; · iexact Hc
    isplitl [Hf_xr2] <;> iassumption
  iintro ⟨Ho, Hz_xr2, Hx2⟩
  iapply (step_out m K c 2 rfl (off13 c)) $$ [Hr_ou3 Hx2 Hy2]
  · isplitr; · iexact Hc
    isplitl [Hr_ou3]; · iexact Hr_ou3
    isplitl [Hx2] <;> iassumption
  iintro Hf_ou3
  iapply (wait_own m K c (xsS 3) (by decide) rfl ((amt_nB (xsS 3) (by decide)).symm ▸ rfl) (dPay_xs m c 3)) $$ [Hf_xs3 Ho]
  · isplitr; · iexact Hc
    isplitl [Hf_xs3] <;> iassumption
  unfold xsPay
  iintro ⟨Ho, Hz_xs3, Hbl3⟩
  iapply (wait_xr m K c 3 rfl ((amt_nB (xrS 3) (by decide)).symm ▸ rfl)) $$ [Hf_xr3 Ho]
  · isplitr; · iexact Hc
    isplitl [Hf_xr3] <;> iassumption
  iintro ⟨Ho, Hz_xr3, Hx3⟩
  iapply Hk
  isplitl [Ho]; · iexact Ho
  isplitl [Hz_xr2]; · iexact Hz_xr2
  isplitl [Hf_ou3]; · iexact Hf_ou3
  isplitl [Hz_xs3]; · iexact Hz_xs3
  isplitl [Hbl3]; · iexact Hbl3
  isplitl [Hz_xr3] <;> iassumption

end Cert.KernelIdeal.Run
-- ==== Proof.Body.lean ====
/-
The whole body: from what a device starts with to what it ends with.
-/
module

public import proofs.«01_k».proof.Proof.BodyX

@[expose] public section

set_option maxRecDepth 16000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Groups -/

/-- Three and five of a kind. -/
abbrev three (Φ : Fin 3 → sProp 𝕄) : sProp 𝕄 := iprop(Φ 0 ∗ Φ 1 ∗ Φ 2)
abbrev five (Φ : Fin 5 → sProp 𝕄) : sProp 𝕄 := iprop(Φ 0 ∗ Φ 1 ∗ Φ 2 ∗ Φ 3 ∗ Φ 4)

/-- A family over the copy semaphores, by what they are for. -/
abbrev allD (Φ : DmaSem sig → sProp 𝕄) : sProp 𝕄 :=
  iprop(three (fun j => Φ (ldS j)) ∗ four (fun k => Φ (ysS k)) ∗ four (fun k => Φ (yrS k)) ∗ four (fun k => Φ (xsS k)) ∗ four (fun k => Φ (xrS k))
    ∗ five (fun j => Φ (ouS j)))

omit [FloatOps F] in
theorem allD_list (Φ : DmaSem sig → sProp 𝕄) : bigSep Finset.univ Φ = iprop(Φ (ldS 0) ∗ Φ (ldS 1) ∗ Φ (ldS 2)
    ∗ Φ (ysS 0) ∗ Φ (ysS 1) ∗ Φ (ysS 2) ∗ Φ (ysS 3) ∗ Φ (yrS 0) ∗ Φ (yrS 1) ∗ Φ (yrS 2) ∗ Φ (yrS 3)
    ∗ Φ (xsS 0) ∗ Φ (xsS 1) ∗ Φ (xsS 2) ∗ Φ (xsS 3) ∗ Φ (xrS 0) ∗ Φ (xrS 1) ∗ Φ (xrS 2) ∗ Φ (xrS 3) ∗ Φ (ouS 0) ∗ Φ (ouS 1) ∗ Φ (ouS 2) ∗ Φ (ouS 3) ∗ Φ (ouS 4)) :=
  bigSep_univ_eq_bigSepL [ldS 0, ldS 1, ldS 2, ysS 0, ysS 1, ysS 2, ysS 3, yrS 0, yrS 1, yrS 2, yrS 3, xsS 0, xsS 1, xsS 2, xsS 3, xrS 0, xrS 1, xrS 2, xrS 3, ouS 0, ouS 1, ouS 2, ouS 3, ouS 4] (by decide) (by decide) Φ
omit [FloatOps F] in
theorem allD_of (Φ : DmaSem sig → sProp 𝕄) : bigSep Finset.univ Φ ⊢ allD Φ := by
  rw [allD_list]
  iintro ⟨H_ld0, H_ld1, H_ld2, H_ys0, H_ys1, H_ys2, H_ys3, H_yr0, H_yr1, H_yr2, H_yr3, H_xs0, H_xs1, H_xs2, H_xs3, H_xr0, H_xr1, H_xr2, H_xr3, H_ou0, H_ou1, H_ou2, H_ou3, H_ou4⟩
  isplitl [H_ld0 H_ld1 H_ld2]
  · isplitl [H_ld0]; · iexact H_ld0
    isplitl [H_ld1]; · iexact H_ld1
    iexact H_ld2
  isplitl [H_ys0 H_ys1 H_ys2 H_ys3]
  · isplitl [H_ys0]; · iexact H_ys0
    isplitl [H_ys1]; · iexact H_ys1
    isplitl [H_ys2]; · iexact H_ys2
    iexact H_ys3
  isplitl [H_yr0 H_yr1 H_yr2 H_yr3]
  · isplitl [H_yr0]; · iexact H_yr0
    isplitl [H_yr1]; · iexact H_yr1
    isplitl [H_yr2]; · iexact H_yr2
    iexact H_yr3
  isplitl [H_xs0 H_xs1 H_xs2 H_xs3]
  · isplitl [H_xs0]; · iexact H_xs0
    isplitl [H_xs1]; · iexact H_xs1
    isplitl [H_xs2]; · iexact H_xs2
    iexact H_xs3
  isplitl [H_xr0 H_xr1 H_xr2 H_xr3]
  · isplitl [H_xr0]; · iexact H_xr0
    isplitl [H_xr1]; · iexact H_xr1
    isplitl [H_xr2]; · iexact H_xr2
    iexact H_xr3
  isplitl [H_ou0]; · iexact H_ou0
  isplitl [H_ou1]; · iexact H_ou1
  isplitl [H_ou2]; · iexact H_ou2
  isplitl [H_ou3]; · iexact H_ou3
  iexact H_ou4
omit [FloatOps F] in
theorem allD_to (Φ : DmaSem sig → sProp 𝕄) : allD Φ ⊢ bigSep Finset.univ Φ := by
  rw [allD_list]
  iintro ⟨⟨H_ld0, H_ld1, H_ld2⟩, ⟨H_ys0, H_ys1, H_ys2, H_ys3⟩, ⟨H_yr0, H_yr1, H_yr2, H_yr3⟩, ⟨H_xs0, H_xs1, H_xs2, H_xs3⟩, ⟨H_xr0, H_xr1, H_xr2, H_xr3⟩, ⟨H_ou0, H_ou1, H_ou2, H_ou3, H_ou4⟩⟩
  isplitl [H_ld0]; · iexact H_ld0
  isplitl [H_ld1]; · iexact H_ld1
  isplitl [H_ld2]; · iexact H_ld2
  isplitl [H_ys0]; · iexact H_ys0
  isplitl [H_ys1]; · iexact H_ys1
  isplitl [H_ys2]; · iexact H_ys2
  isplitl [H_ys3]; · iexact H_ys3
  isplitl [H_yr0]; · iexact H_yr0
  isplitl [H_yr1]; · iexact H_yr1
  isplitl [H_yr2]; · iexact H_yr2
  isplitl [H_yr3]; · iexact H_yr3
  isplitl [H_xs0]; · iexact H_xs0
  isplitl [H_xs1]; · iexact H_xs1
  isplitl [H_xs2]; · iexact H_xs2
  isplitl [H_xs3]; · iexact H_xs3
  isplitl [H_xr0]; · iexact H_xr0
  isplitl [H_xr1]; · iexact H_xr1
  isplitl [H_xr2]; · iexact H_xr2
  isplitl [H_xr3]; · iexact H_xr3
  isplitl [H_ou0]; · iexact H_ou0
  isplitl [H_ou1]; · iexact H_ou1
  isplitl [H_ou2]; · iexact H_ou2
  isplitl [H_ou3]; · iexact H_ou3
  iexact H_ou4

/-! ## Start and end -/

variable (m : (ℓ : Loc nD τ sig) → Buf (Elt F) ℓ) (K : Dev nD × J → ℕ) (c : Dev nD)

/-- The tokens of the duties device `c` pays at its partners: the barriers' signals, and the sends' arrivals. -/
def paysAway : sProp 𝕄 :=
  iprop(dutyTok ER (barCell (yp c)) 0 false ∗ dutyTok ER (barCell (xp c)) 0 true
    ∗ (four fun k => dutyTok ER (dCell (yp c) (yrS k)) 0 false) ∗ (four fun k => dutyTok ER (dCell (xp c) (xrS k)) 0 false))
/-- The semaphores of the copies it starts that complete at itself: the loads, the sends' departures, the copies out. -/
def readies : sProp 𝕄 :=
  iprop((three fun j => rdy c (ldS j)) ∗ (four fun k => rdy c (ysS k)) ∗ (four fun k => rdy c (xsS k)) ∗ (five fun j => rdy c (ouS j)))
/-- Those of the receipts, which are certain from the start. -/
def comings : sProp 𝕄 := iprop((four fun k => fly c (yrS k)) ∗ (four fun k => fly c (xrS k)))
/-- The device's operands and result. -/
def bufs (f : (main_v1 : Ref sig .tc).ty.Contents (Elt F)) : sProp 𝕄 :=
  iprop(pt main_arg0 c Finset.univ fullShare (A0 m c) ∗ pt main_arg1 c Finset.univ fullShare (A1 m c) ∗ pt main_v1 c Finset.univ fullShare f)
/-- Its scratch buffers, at whatever contents. -/
def scratch : sProp 𝕄 :=
  iprop((∃ f, pt cc0_scratch0 c Finset.univ fullShare f) ∗ (∃ f, pt cc0_scratch1 c Finset.univ fullShare f) ∗ (∃ f, pt cc0_scratch2 c Finset.univ fullShare f)
    ∗ (∃ f, pt cc0_scratch3 c Finset.univ fullShare f) ∗ (∃ f, pt cc0_scratch4 c Finset.univ fullShare f))

/-- What a device starts with, the levels and the schedule's facts aside; -/
def begins (f : (main_v1 : Ref sig .tc).ty.Contents (Elt F)) : sProp 𝕄 :=
  iprop(paysAway c ∗ readies c ∗ comings c ∗ atPos ER (barCell c) 0 ∅ 0 ∗ cred (tallyAt (barCell c) () 2) ∗ bufs m c f)
/-- and what it ends with: the result in place, every semaphore done with. -/
def ends : sProp 𝕄 := iprop(bufs m c (G m c) ∗ allD (fin c) ∗ semVal (barCell c) 0)

/-! ## The landing places -/

omit [FloatOps F] in
theorem barPay_y : (barPay c false : sProp 𝕄) = iprop(∃ f, four fun k => pt cc0_scratch3 (yp c) (rS k).set fullShare f) := if_neg (by decide)
omit [FloatOps F] in
theorem barPay_x : (barPay c true : sProp 𝕄) = iprop(∃ f, four fun k => pt cc0_scratch4 (xp c) (rB (xr c) k).set fullShare f) := if_pos rfl
/-- What the copy out of the device's own half hands over. -/
theorem ouPay_zero : ouPay m c 0 = iprop(pt main_v1 c (rO (xr c)).set fullShare (G m c) ∗ pt cc0_scratch4 c (rO (xr c)).set fullShare.right (G m c)) := rfl

omit [FloatOps F] in
/-- The receive slots of a device are what it signals to its partner along `y`; -/
theorem pay_y (f : (cc0_scratch3 : Ref sig .tc).ty.Contents (Elt F)) : pt cc0_scratch3 c Finset.univ fullShare f ⊢ (barPay (yp c) false : sProp 𝕄) := by
  unfold barPay
  rw [if_neg (by decide), yp_yp, yrecv_slots]
  iintro H
  iexists f
  iexact H
omit [FloatOps F] in
/-- the other half of its result buffer, to that along `x`. -/
theorem pay_x (f : (cc0_scratch4 : Ref sig .tc).ty.Contents (Elt F)) : pt cc0_scratch4 c (rO (xo c)).set fullShare f ⊢ (barPay (xp c) true : sProp 𝕄) := by
  unfold barPay
  rw [if_pos rfl, xp_xp, xr_xp, outv_blocks]
  iintro H
  iexists f
  iexact H
omit [FloatOps F] in
/-- The rows of the first operand the device reads, and the others. -/
theorem arg0_parts (f : (main_arg0 : Ref sig .tc).ty.Contents (Elt F)) :
    (pt main_arg0 c Finset.univ fullShare f : sProp 𝕄) ⊣⊢ iprop(pt main_arg0 c (rA (xr c)).set fullShare f ∗ pt main_arg0 c (Finset.univ \ (rA (xr c)).set) fullShare f) :=
  pointsTo_split_subset (Finset.subset_univ _)

/-! ## The body -/

set_option maxHeartbeats 4000000 in
/-- **The body.** -/
theorem body_run {Q : PUnit → sProp 𝕄} (f : (main_v1 : Ref sig .tc).ty.Contents (Elt F)) :
    iprop(ctx m K ∗ ow c (O₀ c) ∗ begins m c f ∗ scratch c)
      ⊢ iprop(((ow c (OS c 0 0) ∗ ends m c ∗ scratch c) -∗ Q ⟨⟩)
        -∗ WP c (cc0_body mA0 (Memref.isWhole_whole _) mA1 (Memref.isWhole_whole _) mV1 (Memref.isWhole_whole _) mD (Memref.isWhole_whole _) mW (Memref.isWhole_whole _)
            mYs (Memref.isWhole_whole _) mYr (Memref.isWhole_whole _) mO (Memref.isWhole_whole _) cc0_scratch5 cc0_scratch6 cc0_scratch7 cc0_scratch8 cc0_scratch9 cc0_scratch10) Q) := by
  rw [cc0_body_eq_skeleton]
  unfold cc0_body_skel begins paysAway readies comings bufs scratch
  iintro ⟨#Hc, Ho, ⟨⟨Htby, Htbx, ⟨Ht_y0, Ht_y1, Ht_y2, Ht_y3⟩, ⟨Ht_x0, Ht_x1, Ht_x2, Ht_x3⟩⟩, ⟨⟨Hr_ld0, Hr_ld1, Hr_ld2⟩, ⟨Hr_ys0, Hr_ys1, Hr_ys2, Hr_ys3⟩, ⟨Hr_xs0, Hr_xs1, Hr_xs2, Hr_xs3⟩, ⟨Hr_ou0, Hr_ou1, Hr_ou2, Hr_ou3, Hr_ou4⟩⟩, ⟨⟨Hf_yr0, Hf_yr1, Hf_yr2, Hf_yr3⟩, ⟨Hf_xr0, Hf_xr1, Hf_xr2, Hf_xr3⟩⟩, Hat, Hcr, Ha0, Ha1, Hy⟩,
    ⟨%f0, Hd⟩, ⟨%f1, Hw⟩, ⟨%f2, Hs⟩, ⟨%f3, Hv⟩, ⟨%f4, Hb⟩⟩ Hk
  ihave H := (arg0_parts c (A0 m c)).1 $$ Ha0
  icases H with ⟨Ha0, Har⟩
  ihave H := (arg1_parts c (A1 m c)).1 $$ Ha1
  icases H with ⟨Ha1, Ha'⟩
  ihave H := (wv_parts c f1).1 $$ Hw
  icases H with ⟨Hw0, Hw'⟩
  ihave H := (Entails.of_eq (ysend_slots c fullShare f2)) $$ Hs
  icases H with ⟨Hs0, Hs1, Hs2, Hs3⟩
  ihave Hpy := (pay_y c f3) $$ Hv
  ihave H := (outv_halves c fullShare f4).1 $$ Hb
  icases H with ⟨Hb, Hx⟩
  ihave Hpx := (pay_x c f4) $$ Hx
  ihave H := (Entails.of_eq (outv_blocks c (xr c) fullShare f4)) $$ Hb
  icases H with ⟨Hb0, Hb1, Hb2, Hb3⟩
  ihave H := (v1_halves c fullShare f).1 $$ Hy
  icases H with ⟨Hy, Hyo⟩
  ihave H := (Entails.of_eq (v1_blocks c (xo c) fullShare f)) $$ Hyo
  icases H with ⟨Hy0, Hy1, Hy2, Hy3⟩
  iapply (part1_run m K c) $$ [Ho Htby Htbx Hpy Hpx Hr_ld0 Ha0 Hd]
  · isplitr; · iexact Hc
    isplitl [Ho]; · iexact Ho
    isplitl [Htby]; · iexact Htby
    isplitl [Htbx]; · iexact Htbx
    isplitl [Hpy]; · iexact Hpy
    isplitl [Hpx]; · iexact Hpx
    isplitl [Hr_ld0]; · iexact Hr_ld0
    isplitl [Ha0] <;> iassumption
  iintro %v2 %v5 %v8 ⟨Ho, Hf_ld0⟩
  try dsimp only
  iapply (part2_run m K c v2 v5) $$ [Ho Hf_ld0 Hr_ld1 Hr_ld2 Ha1 Ha' Hw0 Hw' Hs0 Hat Hcr]
  · isplitr; · iexact Hc
    isplitl [Ho]; · iexact Ho
    isplitl [Hf_ld0]; · iexact Hf_ld0
    isplitl [Hr_ld1]; · iexact Hr_ld1
    isplitl [Hr_ld2]; · iexact Hr_ld2
    isplitl [Ha1]; · iexact Ha1
    isplitl [Ha']; · iexact Ha'
    isplitl [Hw0]; · iexact Hw0
    isplitl [Hw']; · iexact Hw'
    isplitl [Hs0]; · iexact Hs0
    isplitl [Hat] <;> iassumption
  iintro %v52 %v54 ⟨Ho, Hz_ld0, Hz_ld1, Hf_ld2, Hd, Ha0, Hw0, Ha1, Hs0, Hzb, Hpy, Hpx⟩
  try dsimp only
  ihave Hpy := (Entails.of_eq (barPay_y (F := F) c)) $$ Hpy
  ihave Hpx := (Entails.of_eq (barPay_x (F := F) c)) $$ Hpx
  icases Hpy with ⟨%fy, Hyd0, Hyd1, Hyd2, Hyd3⟩
  icases Hpx with ⟨%fx, Hxd0, Hxd1, Hxd2, Hxd3⟩
  iapply (part3_run m K c v2 v5 v8 v52 v54) $$ [Ho Hr_ys0 Ht_y0 Hs0 Hyd0 Hf_ld2 Hs1]
  · isplitr; · iexact Hc
    isplitl [Ho]; · iexact Ho
    isplitl [Hr_ys0]; · iexact Hr_ys0
    isplitl [Ht_y0]; · iexact Ht_y0
    isplitl [Hs0]; · iexact Hs0
    isplitl [Hyd0]; · iexact Hyd0
    isplitl [Hf_ld2] <;> iassumption
  iintro %v78 ⟨Ho, Hf_ys0, Hz_ld2, Hw', Ha', Hs1⟩
  try dsimp only
  iapply (part4_run m K c v2 v5 v8) $$ [Ho Hr_ys1 Ht_y1 Hs1 Hyd1 Hw' Hs2 Hr_ys2 Ht_y2 Hyd2]
  · isplitr; · iexact Hc
    isplitl [Ho]; · iexact Ho
    isplitl [Hr_ys1]; · iexact Hr_ys1
    isplitl [Ht_y1]; · iexact Ht_y1
    isplitl [Hs1]; · iexact Hs1
    isplitl [Hyd1]; · iexact Hyd1
    isplitl [Hw']; · iexact Hw'
    isplitl [Hs2]; · iexact Hs2
    isplitl [Hr_ys2]; · iexact Hr_ys2
    isplitl [Ht_y2] <;> iassumption
  iintro %v100 ⟨Ho, Hf_ys1, Hf_ys2, Hw'⟩
  try dsimp only
  iapply (part5_run m K c v2 v5 v8) $$ [Ho Hs3 Hr_ys3 Ht_y3 Hyd3 Hf_ys0]
  · isplitr; · iexact Hc
    isplitl [Ho]; · iexact Ho
    isplitl [Hs3]; · iexact Hs3
    isplitl [Hr_ys3]; · iexact Hr_ys3
    isplitl [Ht_y3]; · iexact Ht_y3
    isplitl [Hyd3] <;> iassumption
  iintro %v122 %v137 ⟨Ho, Hf_ys3, Hz_ys0, Hs0⟩
  try dsimp only
  iapply (part6_run m K c v2 v5 v8 v52 v137) $$ [Ho Hf_yr0 Hs0 Hb0]
  · isplitr; · iexact Hc
    isplitl [Ho]; · iexact Ho
    isplitl [Hf_yr0]; · iexact Hf_yr0
    isplitl [Hs0] <;> iassumption
  iintro %v165 ⟨Ho, Hz_yr0, Hs0, Hv0, Hb0⟩
  try dsimp only
  iapply (part7_run m K c v2 v8 v78) $$ [Ho Hr_xs0 Ht_x0 Hb0 Hxd0 Hf_ys1 Hf_yr1 Hb1]
  · isplitr; · iexact Hc
    isplitl [Ho]; · iexact Ho
    isplitl [Hr_xs0]; · iexact Hr_xs0
    isplitl [Ht_x0]; · iexact Ht_x0
    isplitl [Hb0]; · iexact Hb0
    isplitl [Hxd0]; · iexact Hxd0
    isplitl [Hf_ys1]; · iexact Hf_ys1
    isplitl [Hf_yr1] <;> iassumption
  iintro ⟨Ho, Hf_xs0, Hbr0, Hz_ys1, Hs1, Hz_yr1, Hv1, Hb1⟩
  try dsimp only
  iapply (part8_run m K c v2 v5 v8 v100) $$ [Ho Hb1 Hr_xs1 Ht_x1 Hxd1 Hf_ys2]
  · isplitr; · iexact Hc
    isplitl [Ho]; · iexact Ho
    isplitl [Hb1]; · iexact Hb1
    isplitl [Hr_xs1]; · iexact Hr_xs1
    isplitl [Ht_x1]; · iexact Ht_x1
    isplitl [Hxd1] <;> iassumption
  iintro %v206 %v219 ⟨Ho, Hf_xs1, Hbr1, Hz_ys2, Hs2⟩
  try dsimp only
  iapply (part9_run m K c v2 v5 v8 v219) $$ [Ho Hf_yr2 Hs2 Hb2 Hr_xs2 Ht_x2 Hxd2]
  · isplitr; · iexact Hc
    isplitl [Ho]; · iexact Ho
    isplitl [Hf_yr2]; · iexact Hf_yr2
    isplitl [Hs2]; · iexact Hs2
    isplitl [Hb2]; · iexact Hb2
    isplitl [Hr_xs2]; · iexact Hr_xs2
    isplitl [Ht_x2] <;> iassumption
  iintro %v247 %v260 ⟨Ho, Hz_yr2, Hs2, Hv2, Hf_xs2, Hbr2⟩
  try dsimp only
  iapply (part10_run m K c v2 v5 v8 v122 v260) $$ [Ho Hf_ys3 Hf_yr3 Hb3]
  · isplitr; · iexact Hc
    isplitl [Ho]; · iexact Ho
    isplitl [Hf_ys3]; · iexact Hf_ys3
    isplitl [Hf_yr3] <;> iassumption
  iintro %v288 %v292 %v293 ⟨Ho, Hz_ys3, Hs3, Hz_yr3, Hv3, Hb3⟩
  try dsimp only
  iapply (part11_run m K c v2 v5 v8 v165 v292 v293) $$ [Ho Hr_xs3 Ht_x3 Hb3 Hxd3 Hbr0 Hbr1 Hbr2 Hr_ou0 Hy Hf_xs0 Hf_xr0]
  · isplitr; · iexact Hc
    isplitl [Ho]; · iexact Ho
    isplitl [Hr_xs3]; · iexact Hr_xs3
    isplitl [Ht_x3]; · iexact Ht_x3
    isplitl [Hb3]; · iexact Hb3
    isplitl [Hxd3]; · iexact Hxd3
    isplitl [Hbr0]; · iexact Hbr0
    isplitl [Hbr1]; · iexact Hbr1
    isplitl [Hbr2]; · iexact Hbr2
    isplitl [Hr_ou0]; · iexact Hr_ou0
    isplitl [Hy]; · iexact Hy
    isplitl [Hf_xs0] <;> iassumption
  iintro ⟨Ho, Hf_xs3, Hf_ou0, Hz_xs0, Hbl0, Hz_xr0, Hx0⟩
  try dsimp only
  iapply (part12_run m K c v2 v5 v8 v206) $$ [Ho Hr_ou1 Hx0 Hy0 Hf_xs1 Hf_xr1 Hr_ou2 Hy1 Hf_xs2]
  · isplitr; · iexact Hc
    isplitl [Ho]; · iexact Ho
    isplitl [Hr_ou1]; · iexact Hr_ou1
    isplitl [Hx0]; · iexact Hx0
    isplitl [Hy0]; · iexact Hy0
    isplitl [Hf_xs1]; · iexact Hf_xs1
    isplitl [Hf_xr1]; · iexact Hf_xr1
    isplitl [Hr_ou2]; · iexact Hr_ou2
    isplitl [Hy1] <;> iassumption
  iintro ⟨Ho, Hf_ou1, Hz_xs1, Hbl1, Hz_xr1, Hf_ou2, Hz_xs2, Hbl2⟩
  try dsimp only
  iapply (part13_run m K c v2 v5 v8 v247 v288) $$ [Ho Hf_xr2 Hr_ou3 Hy2 Hf_xs3 Hf_xr3]
  · isplitr; · iexact Hc
    isplitl [Ho]; · iexact Ho
    isplitl [Hf_xr2]; · iexact Hf_xr2
    isplitl [Hr_ou3]; · iexact Hr_ou3
    isplitl [Hy2]; · iexact Hy2
    isplitl [Hf_xs3] <;> iassumption
  iintro ⟨Ho, Hz_xr2, Hf_ou3, Hz_xs3, Hbl3, Hz_xr3, Hx3⟩
  try dsimp only
  simp only [Prog.lift, Prog.bind_op, Prog.bind_ret, Prog.pure_eq_ret]
  iapply (step_out m K c 3 rfl (off14 c)) $$ [Hr_ou4 Hx3 Hy3]
  · isplitr; · iexact Hc
    isplitl [Hr_ou4]; · iexact Hr_ou4
    isplitl [Hx3] <;> iassumption
  iintro Hf_ou4
  iapply (wait_own m K c (ouS 0) (by decide) rfl (amt_ou0.symm ▸ rfl) (dPay_ou m c 0)) $$ [Hf_ou0 Ho]
  · isplitr; · iexact Hc
    isplitl [Hf_ou0] <;> iassumption
  iintro ⟨Ho, Hz_ou0, Hp⟩
  ihave Hp := (Entails.of_eq (ouPay_zero m c)) $$ Hp
  icases Hp with ⟨Hy, Hbr⟩
  iapply (wait_own m K c (ouS 1) (by decide) rfl ((amt_nB (ouS 1) (by decide)).symm ▸ rfl) ((dPay_ou m c 1).trans (ouPay_succ m c 0))) $$ [Hf_ou1 Ho]
  · isplitr; · iexact Hc
    isplitl [Hf_ou1] <;> iassumption
  iintro ⟨Ho, Hz_ou1, Hy0, Hx0⟩
  iapply (wait_own m K c (ouS 2) (by decide) rfl ((amt_nB (ouS 2) (by decide)).symm ▸ rfl) ((dPay_ou m c 2).trans (ouPay_succ m c 1))) $$ [Hf_ou2 Ho]
  · isplitr; · iexact Hc
    isplitl [Hf_ou2] <;> iassumption
  iintro ⟨Ho, Hz_ou2, Hy1, Hx1⟩
  iapply (wait_own m K c (ouS 3) (by decide) rfl ((amt_nB (ouS 3) (by decide)).symm ▸ rfl) ((dPay_ou m c 3).trans (ouPay_succ m c 2))) $$ [Hf_ou3 Ho]
  · isplitr; · iexact Hc
    isplitl [Hf_ou3] <;> iassumption
  iintro ⟨Ho, Hz_ou3, Hy2, Hx2⟩
  iapply (wait_own m K c (ouS 4) (by decide) rfl ((amt_nB (ouS 4) (by decide)).symm ▸ rfl) ((dPay_ou m c 4).trans (ouPay_succ m c 3))) $$ [Hf_ou4 Ho]
  · isplitr; · iexact Hc
    isplitl [Hf_ou4]; · iexact Hf_ou4
    iexact Ho
  iintro ⟨Ho, Hz_ou4, Hy3, Hx3⟩
  simp only [wp_ret]
  imodintro
  iapply Hk
  isplitl [Ho]; · iexact Ho
  isplitr [Hd Hw0 Hw' Hs0 Hs1 Hs2 Hs3 Hv0 Hv1 Hv2 Hv3 Hbl0 Hbl1 Hbl2 Hbl3 Hbr Hx0 Hx1 Hx2 Hx3]
  · unfold ends bufs
    isplitl [Ha0 Har Ha1 Ha' Hy Hy0 Hy1 Hy2 Hy3]
    · isplitl [Ha0 Har]
      · iapply (arg0_parts c (A0 m c)).2
        isplitl [Ha0] <;> iassumption
      isplitl [Ha1 Ha']
      · iapply (arg1_parts c (A1 m c)).2
        isplitl [Ha1] <;> iassumption
      iapply (v1_halves c fullShare (G m c)).2
      isplitl [Hy]; · iexact Hy
      iapply (Entails.of_eq (v1_blocks c (xo c) fullShare (G m c)).symm)
      isplitl [Hy0]; · iexact Hy0
      isplitl [Hy1]; · iexact Hy1
      isplitl [Hy2]; · iexact Hy2
      iexact Hy3
    isplitl [Hz_ld0 Hz_ld1 Hz_ld2 Hz_ys0 Hz_ys1 Hz_ys2 Hz_ys3 Hz_yr0 Hz_yr1 Hz_yr2 Hz_yr3 Hz_xs0 Hz_xs1 Hz_xs2 Hz_xs3 Hz_xr0 Hz_xr1 Hz_xr2 Hz_xr3 Hz_ou0 Hz_ou1 Hz_ou2 Hz_ou3 Hz_ou4]
    · isplitl [Hz_ld0 Hz_ld1 Hz_ld2]
      · isplitl [Hz_ld0]; · iexact Hz_ld0
        isplitl [Hz_ld1]; · iexact Hz_ld1
        iexact Hz_ld2
      isplitl [Hz_ys0 Hz_ys1 Hz_ys2 Hz_ys3]
      · isplitl [Hz_ys0]; · iexact Hz_ys0
        isplitl [Hz_ys1]; · iexact Hz_ys1
        isplitl [Hz_ys2]; · iexact Hz_ys2
        iexact Hz_ys3
      isplitl [Hz_yr0 Hz_yr1 Hz_yr2 Hz_yr3]
      · isplitl [Hz_yr0]; · iexact Hz_yr0
        isplitl [Hz_yr1]; · iexact Hz_yr1
        isplitl [Hz_yr2]; · iexact Hz_yr2
        iexact Hz_yr3
      isplitl [Hz_xs0 Hz_xs1 Hz_xs2 Hz_xs3]
      · isplitl [Hz_xs0]; · iexact Hz_xs0
        isplitl [Hz_xs1]; · iexact Hz_xs1
        isplitl [Hz_xs2]; · iexact Hz_xs2
        iexact Hz_xs3
      isplitl [Hz_xr0 Hz_xr1 Hz_xr2 Hz_xr3]
      · isplitl [Hz_xr0]; · iexact Hz_xr0
        isplitl [Hz_xr1]; · iexact Hz_xr1
        isplitl [Hz_xr2]; · iexact Hz_xr2
        iexact Hz_xr3
      isplitl [Hz_ou0]; · iexact Hz_ou0
      isplitl [Hz_ou1]; · iexact Hz_ou1
      isplitl [Hz_ou2]; · iexact Hz_ou2
      isplitl [Hz_ou3]; · iexact Hz_ou3
      iexact Hz_ou4
    iexact Hzb
  isplitl [Hd]; · iexists (D m c); iexact Hd
  isplitl [Hw0 Hw']
  · iexists (A1 m c)
    iapply (wv_parts c (A1 m c)).2
    isplitl [Hw0] <;> iassumption
  isplitl [Hs0 Hs1 Hs2 Hs3]
  · iexists (Yc m c)
    iapply (Entails.of_eq (ysend_slots c fullShare (Yc m c)).symm)
    isplitl [Hs0]; · iexact Hs0
    isplitl [Hs1]; · iexact Hs1
    isplitl [Hs2]; · iexact Hs2
    iexact Hs3
  isplitl [Hv0 Hv1 Hv2 Hv3]
  · iexists (Yc m (yp c))
    iapply (Entails.of_eq (yrecv_slots c fullShare (Yc m (yp c))).symm)
    isplitl [Hv0]; · iexact Hv0
    isplitl [Hv1]; · iexact Hv1
    isplitl [Hv2]; · iexact Hv2
    iexact Hv3
  iexists (G m c)
  iapply (outv_halves c fullShare (G m c)).2
  isplitr [Hx0 Hx1 Hx2 Hx3]
  · iapply (pointsTo_share (PosShare.mem_left_op_right fullShare)).2
    isplitr [Hbr]
    · iapply (Entails.of_eq (outv_blocks c (xr c) fullShare.left (G m c)).symm)
      isplitl [Hbl0]; · iexact Hbl0
      isplitl [Hbl1]; · iexact Hbl1
      isplitl [Hbl2]; · iexact Hbl2
      iexact Hbl3
    iexact Hbr
  iapply (Entails.of_eq (outv_blocks c (xo c) fullShare (G m c)).symm)
  isplitl [Hx0]; · iexact Hx0
  isplitl [Hx1]; · iexact Hx1
  isplitl [Hx2]; · iexact Hx2
  iexact Hx3

end Cert.KernelIdeal.Run
-- ==== Proof.Launch.lean ====
/-
The launch: the semaphores' schedule is set up for all devices at once, every device is given what its body starts with,
and the run's final memory is read off what the bodies end with.
-/
module

public import proofs.«01_k».proof.Proof.Body
public import Idealize.ShloMosaic.Lib.Pipeline.CollectiveSegs

@[expose] public section

set_option maxRecDepth 16000

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The one point of the grid -/

/-- What the body starts from, at some names for the schedule's invariants. -/
def start (c : Dev nD) : sProp 𝕄 := iprop(∃ K, ctx m K ∗ begins m c (m ((c : Thread nD τ).loc main_v1)))
def Φ₀ (c : Dev nD) : sProp 𝕄 := iprop(start m c ∗ scratch c)
/-- What it ends with. -/
def Φ₁ (c : Dev nD) : sProp 𝕄 := iprop(ends m c ∗ scratch c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The kernel has no windows. -/
theorem no_windows (Φ : Fin cfg0.W → sProp 𝕄) : bigSep Finset.univ Φ = iprop(emp) := by
  rw [show (Finset.univ : Finset (Fin cfg0.W)) = ∅ from rfl, bigSep_empty]; rfl

theorem body_obligation (c : Dev nD) : BodyObligation (dats (F := F) m 0 c) (defs₀ (F := F)) 𝒱₀ () Set.univ := fun t => by
  rw [fin_N0 t]
  show iprop(Φ₀ m c ∗ (dats m 0 c).owesAt () (t0_0 : Fin cfg0.N).castSucc ∗ _) ⊢ WP c
    (cc0_body mA0 (Memref.isWhole_whole _) mA1 (Memref.isWhole_whole _) mV1 (Memref.isWhole_whole _) mD (Memref.isWhole_whole _) mW (Memref.isWhole_whole _)
      mYs (Memref.isWhole_whole _) mYr (Memref.isWhole_whole _) mO (Memref.isWhole_whole _) cc0_scratch5 cc0_scratch6 cc0_scratch7 cc0_scratch8 cc0_scratch9 cc0_scratch10)
    (fun _ => iprop(Φ₁ m c ∗ (dats m 0 c).owesAt () (t0_0 : Fin cfg0.N).succ ∗ _))
  rw [no_windows, no_windows]
  unfold Φ₀ Φ₁ start Dat.owesAt Pipeline.owesWithin
  rw [show (dats m 0 c).owed (t0_0 : Fin cfg0.N).castSucc = O₀ c from rfl, show (dats m 0 c).owed (t0_0 : Fin cfg0.N).succ = OS c 0 0 from (add_zero (0 : CellTallies nD τ sig Unit)).symm]
  iintro ⟨⟨⟨%K, #Hc, Hb⟩, Hs⟩, ⟨%W, -, Ho⟩, -⟩
  iapply (body_run m K c _) $$ [Hb Hs Ho]
  · isplitr; · iexact Hc
    isplitl [Ho]; · unfold ow; iexists W; iexact Ho
    isplitl [Hb] <;> iassumption
  unfold ow
  iintro ⟨⟨%W', Ho⟩, He, Hs⟩
  isplitl [He Hs]
  · isplitl [He] <;> iassumption
  isplitl
  · iexists W'
    isplitr; · ipureintro; exact fun _ _ => Or.inl trivial
    iexact Ho
  iempintro

/-! ## The schedule, set up -/

/-- The kernel's own semaphores: those of the copies. -/
abbrev osem : Fin 24 → SemLoc sig := fun i => .dma i
theorem ownSemFacts : Pipeline.OwnSemFacts cfg0.spec osem := by decide
theorem share_eq (c : Dev nD) (w : Fin cfg0.W) : (dats m 0 c).share w = fullShare := w.elim0

theorem csem_injective : Function.Injective csem := by
  rintro (i | _) (j | _) h
  · exact congrArg Sum.inl (SemLoc.dma.inj h)
  · cases h
  · cases h
  · rfl
theorem kcell_injective : Function.Injective kcell := by
  rintro ⟨c, j⟩ ⟨c', j'⟩ h
  have h1 : c = c' := congrArg (fun g : GSem nD τ sig => g.1.1) h
  have h2 : j = j' := csem_injective (congrArg Prod.snd h)
  rw [h1, h2]
/-- All the semaphores, -/
def cells : Finset (GSem nD τ sig) := Finset.univ.map ⟨kcell, kcell_injective⟩

/-- and all the duties: one of every copy semaphore, two of every barrier. -/
abbrev tokOf (cj : Dev nD × (DmaSem sig ⊕ Bool)) : GSem nD τ sig × ℕ × Bool :=
  match cj.2 with
  | .inl i => (dCell cj.1 i, 0, false)
  | .inr d => (barCell cj.1, 0, d)
theorem tokOf_injective : Function.Injective tokOf := by
  rintro ⟨c, j | d⟩ ⟨c', j' | d'⟩ h
  · have h1 : c = c' := congrArg (fun x : GSem nD τ sig × ℕ × Bool => x.1.1.1) h
    have h2 : j = j' := SemLoc.dma.inj (congrArg (fun x : GSem nD τ sig × ℕ × Bool => x.1.2) h)
    rw [h1, h2]
  · exact absurd (congrArg (fun x : GSem nD τ sig × ℕ × Bool => x.1.2) h) (fun h' => by cases h')
  · exact absurd (congrArg (fun x : GSem nD τ sig × ℕ × Bool => x.1.2) h) (fun h' => by cases h')
  · have h1 : c = c' := congrArg (fun x : GSem nD τ sig × ℕ × Bool => x.1.1.1) h
    have h2 : d = d' := congrArg (fun x : GSem nD τ sig × ℕ × Bool => x.2.2) h
    rw [h1, h2]
def toks₀ : Finset (GSem nD τ sig × ℕ × Bool) := Finset.univ.map ⟨tokOf, tokOf_injective⟩

def u₀ : UU := (initOf (Pipeline.cells cfgs cellOf_inj) (Pipeline.launchToks cfgs cellOf_inj), initOf cells toks₀)

/-- The tokens of the duties at device `c`'s own semaphores. -/
def toks (c : Dev nD) : sProp 𝕄 :=
  iprop((bigSep Finset.univ fun i : DmaSem sig => dutyTok ER (dCell c i) 0 false) ∗ dutyTok ER (barCell c) 0 false ∗ dutyTok ER (barCell c) 0 true)

/-- What the launch deals device `c`. -/
def deals (c : Dev nD) : sProp 𝕄 :=
  iprop((bigSep Finset.univ fun j : J => roundState ER (Rd m) (kcell (c, j)) 0)
    ∗ ((bigSep Finset.univ fun j : J => atPos ER (kcell (c, j)) 0 ∅ 0) ∗ bigSep Finset.univ fun j : J => reached ER (kcell (c, j)) 0) ∗ toks c)

theorem fund : BI.own (ER (initOf cells toks₀)) ⊢ (|==> bigSep Finset.univ (deals m) : sProp 𝕄) := by
  have hX (Φ : GSem nD τ sig → sProp 𝕄) : bigSep cells Φ = bigSep Finset.univ fun c : Dev nD => bigSep Finset.univ fun j : J => Φ (kcell (c, j)) := by
    unfold cells; rw [bigSep_map, bigSep_univ_prod]; rfl
  have hT : bigSep toks₀ (fun x => (dutyTok ER x.1 x.2.1 x.2.2 : sProp 𝕄)) = bigSep Finset.univ fun c : Dev nD => toks c := by
    unfold toks₀; rw [bigSep_map, bigSep_univ_prod]
    exact bigSep_congr fun c _ => by
      unfold toks
      rw [bigSep_univ_sum, bigSep_univ_eq_bigSepL (I := Bool) [false, true] (by decide) (by decide), bigSepL_cons_cons, bigSepL_singleton]; rfl
  iintro HX
  imod (Rounds.fund ER (Rd m) cells toks₀) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold deals; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : DmaSem sig => fin c i := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun j : J => semVal (kcell (c, j)) 0 : sProp 𝕄) := by
  rw [ownSems0_eq, unscopedSems0_eq, bigSep_univ_sum, bigSep_univ_eq_bigSepL (I := Unit) [()] (by decide) (by decide), bigSepL_singleton]
  exact .rfl

/-- A device's semaphores come under the schedule. -/
theorem core_alloc (c : Dev nD) :
    iprop(Pipeline.ownSems0 (Ix := Unit) (Name := ℕ) (U := UU) (Lvl := ℕ) (Val := Elt F) (τ := τ) osem c ∗ unscopedSems0 c ∗ deals m c)
      ⊢ |={Set.univ}=> iprop((bigSep Finset.univ fun j : J => iprop(∃ κ : ℕ, cellInv ER (Rd m) κ (kcell (c, j))))
          ∗ (bigSep Finset.univ fun j : J => reached ER (kcell (c, j)) 0) ∗ (bigSep Finset.univ fun j : J => atPos ER (kcell (c, j)) 0 ∅ 0) ∗ toks c) := by
  unfold deals
  iintro ⟨Hos, Hus, Hst, ⟨Hat, Hr⟩, Htok⟩
  ihave Hv := (sems0 (F := F) c) $$ [Hos Hus]
  · isplitl [Hos] <;> iassumption
  imod (show iprop((bigSep Finset.univ fun j : J => semVal (kcell (c, j)) 0) ∗ bigSep Finset.univ fun j : J => roundState ER (Rd m) (kcell (c, j)) 0)
      ⊢ (|={Set.univ}=> bigSep Finset.univ fun j : J => iprop(∃ κ : ℕ, cellInv ER (Rd m) κ (kcell (c, j))) : sProp 𝕄) from by
        rw [← bigSep_sep']
        exact (bigSep_mono fun j _ => (Rounds.body_intro ER (Rd m) (kcell (c, j))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-! ### Who keeps what -/

/-- The tokens at device `c`'s own semaphores that its partners pay; -/
def paidHere (c : Dev nD) : sProp 𝕄 :=
  iprop(dutyTok ER (barCell c) 0 false ∗ dutyTok ER (barCell c) 0 true
    ∗ (four fun k => dutyTok ER (dCell c (yrS k)) 0 false) ∗ (four fun k => dutyTok ER (dCell c (xrS k)) 0 false))
/-- where `c` stands at its barrier and its receipts. -/
def awaits (c : Dev nD) : sProp 𝕄 :=
  iprop((four fun k => atPos ER (dCell c (yrS k)) 0 ∅ 0) ∗ (four fun k => atPos ER (dCell c (xrS k)) 0 ∅ 0) ∗ atPos ER (barCell c) 0 ∅ 0)

omit [FloatOps F] in
theorem own_split (c : Dev nD) : iprop((bigSep Finset.univ fun j : J => atPos ER (kcell (c, j)) 0 ∅ 0) ∗ toks c)
    ⊢ (iprop(paidHere c ∗ readies c ∗ awaits c) : sProp 𝕄) := by
  have hA : (bigSep Finset.univ fun j : J => (atPos ER (kcell (c, j)) 0 ∅ 0 : sProp 𝕄))
      = iprop((bigSep Finset.univ fun i : DmaSem sig => atPos ER (dCell c i) 0 ∅ 0) ∗ atPos ER (barCell c) 0 ∅ 0) := by
    rw [bigSep_univ_sum, bigSep_univ_eq_bigSepL (I := Unit) [()] (by decide) (by decide), bigSepL_singleton]; rfl
  have hS : iprop((bigSep Finset.univ fun i : DmaSem sig => atPos ER (dCell c i) 0 ∅ 0) ∗ bigSep Finset.univ fun i : DmaSem sig => dutyTok ER (dCell c i) 0 false)
      ⊢ (allD (rdy c) : sProp 𝕄) := by
    rw [← bigSep_sep']; exact allD_of _
  rw [hA]
  unfold toks
  iintro ⟨⟨Ha, Hb⟩, Ht, Hf, Htr⟩
  ihave H := hS $$ [Ha Ht]
  · isplitl [Ha] <;> iassumption
  icases H with ⟨Hld, Hys, Hyr, Hxs, Hxr, Hou⟩
  unfold rdy
  icases Hyr with ⟨⟨Ha0, Ht0⟩, ⟨Ha1, Ht1⟩, ⟨Ha2, Ht2⟩, ⟨Ha3, Ht3⟩⟩
  icases Hxr with ⟨⟨Hb0, Hu0⟩, ⟨Hb1, Hu1⟩, ⟨Hb2, Hu2⟩, ⟨Hb3, Hu3⟩⟩
  unfold paidHere readies awaits rdy
  isplitl [Hf Htr Ht0 Ht1 Ht2 Ht3 Hu0 Hu1 Hu2 Hu3]
  · isplitl [Hf]; · iexact Hf
    isplitl [Htr]; · iexact Htr
    isplitl [Ht0 Ht1 Ht2 Ht3]
    · isplitl [Ht0]; · iexact Ht0
      isplitl [Ht1]; · iexact Ht1
      isplitl [Ht2] <;> iassumption
    isplitl [Hu0]; · iexact Hu0
    isplitl [Hu1]; · iexact Hu1
    isplitl [Hu2] <;> iassumption
  isplitl [Hld Hys Hxs Hou]
  · isplitl [Hld]; · iexact Hld
    isplitl [Hys]; · iexact Hys
    isplitl [Hxs] <;> iassumption
  isplitl [Ha0 Ha1 Ha2 Ha3]
  · isplitl [Ha0]; · iexact Ha0
    isplitl [Ha1]; · iexact Ha1
    isplitl [Ha2] <;> iassumption
  isplitr [Hb]
  · isplitl [Hb0]; · iexact Hb0
    isplitl [Hb1]; · iexact Hb1
    isplitl [Hb2] <;> iassumption
  iexact Hb

omit [FloatOps F] in
/-- The tokens dealt to whoever pays the duty. -/
theorem toks_around : (bigSep Finset.univ fun c : Dev nD => (paidHere c : sProp 𝕄)) ⊢ bigSep Finset.univ fun c : Dev nD => paysAway c := by
  unfold paidHere paysAway
  simp only [bigSep_sep' Finset.univ]
  rw [bigSep_univ_equiv ySwap (fun c : Dev nD => (dutyTok ER (barCell c) 0 false : sProp 𝕄)),
    bigSep_univ_equiv xSwap (fun c : Dev nD => (dutyTok ER (barCell c) 0 true : sProp 𝕄)),
    bigSep_univ_equiv ySwap (fun c : Dev nD => (dutyTok ER (dCell c (yrS 0)) 0 false : sProp 𝕄)),
    bigSep_univ_equiv ySwap (fun c : Dev nD => (dutyTok ER (dCell c (yrS 1)) 0 false : sProp 𝕄)),
    bigSep_univ_equiv ySwap (fun c : Dev nD => (dutyTok ER (dCell c (yrS 2)) 0 false : sProp 𝕄)),
    bigSep_univ_equiv ySwap (fun c : Dev nD => (dutyTok ER (dCell c (yrS 3)) 0 false : sProp 𝕄)),
    bigSep_univ_equiv xSwap (fun c : Dev nD => (dutyTok ER (dCell c (xrS 0)) 0 false : sProp 𝕄)),
    bigSep_univ_equiv xSwap (fun c : Dev nD => (dutyTok ER (dCell c (xrS 1)) 0 false : sProp 𝕄)),
    bigSep_univ_equiv xSwap (fun c : Dev nD => (dutyTok ER (dCell c (xrS 2)) 0 false : sProp 𝕄)),
    bigSep_univ_equiv xSwap (fun c : Dev nD => (dutyTok ER (dCell c (xrS 3)) 0 false : sProp 𝕄))]
  exact .rfl

omit [FloatOps F] in
/-- A persistent fact goes to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The schedule's facts. -/
def records (K : Dev nD × J → ℕ) : sProp 𝕄 :=
  iprop((bigSep Finset.univ fun cj : Dev nD × J => cellInv ER (Rd m) (K cj) (kcell cj)) ∗ bigSep Finset.univ fun cj : Dev nD × J => reached ER (kcell cj) 0)
instance records_persistent (K : Dev nD × J → ℕ) : BI.Persistent (records m K) := by unfold records; infer_instance

/-- What the set-up leaves device `c`. -/
def given (c : Dev nD) : sProp 𝕄 := iprop(∃ K, records m K ∗ paysAway c ∗ readies c ∗ awaits c)

theorem regroup :
    (bigSep Finset.univ fun c : Dev nD => iprop((bigSep Finset.univ fun j : J => iprop(∃ κ : ℕ, cellInv ER (Rd m) κ (kcell (c, j))))
          ∗ (bigSep Finset.univ fun j : J => reached ER (kcell (c, j)) 0) ∗ (bigSep Finset.univ fun j : J => atPos ER (kcell (c, j)) 0 ∅ 0) ∗ toks c) : sProp 𝕄)
      ⊢ bigSep Finset.univ (given m) := by
  have hsplit : (bigSep Finset.univ fun c : Dev nD => (iprop((bigSep Finset.univ fun j : J => atPos ER (kcell (c, j)) 0 ∅ 0) ∗ toks c) : sProp 𝕄))
      ⊢ iprop((bigSep Finset.univ fun c : Dev nD => paidHere c) ∗ bigSep Finset.univ fun c : Dev nD => iprop(readies c ∗ awaits c)) :=
    (bigSep_mono fun c _ => own_split (F := F) c).trans (Entails.of_eq (bigSep_sep' _ _ _))
  rw [bigSep_sep', bigSep_sep', ← bigSep_univ_prod (fun cj : Dev nD × J => iprop(∃ κ : ℕ, cellInv ER (Rd m) κ (kcell cj))),
    ← bigSep_univ_prod (fun cj : Dev nD × J => (reached ER (kcell cj) 0 : sProp 𝕄))]
  iintro ⟨HI, #HR, Hl⟩
  ihave HK := (BI.bigSep_exists_pi Finset.univ (fun (cj : Dev nD × J) (κ : ℕ) => (cellInv ER (Rd m) κ (kcell cj) : sProp 𝕄))) $$ HI
  icases HK with ⟨%K, #HI⟩
  ihave Hl := hsplit $$ Hl
  icases Hl with ⟨Ht, Hl⟩
  ihave Ht := (toks_around (F := F)) $$ Ht
  iapply (bigSep_share (R := records m K) (Φ := fun c : Dev nD => iprop(paysAway c ∗ readies c ∗ awaits c)) fun c _ => by
    unfold given; iintro ⟨H1, H2⟩; iexists K; isplitl [H1] <;> iassumption)
  isplitr
  · unfold records; isplitl; · iexact HI
    iexact HR
  · iapply (Entails.of_eq (bigSep_sep' Finset.univ (fun c : Dev nD => (paysAway c : sProp 𝕄)) fun c => iprop(readies c ∗ awaits c)).symm)
    isplitl [Ht] <;> iassumption

theorem glob : (bigSep Finset.univ fun c => iprop(Pipeline.ownSems0 (Ix := Unit) (Name := ℕ) (U := UU) (Lvl := ℕ) (Val := Elt F) (τ := τ) osem c ∗ unscopedSems0 c ∗ deals m c) : sProp 𝕄)
    ⊢ |={Set.univ}=> bigSep Finset.univ (given m) :=
  ((bigSep_mono fun c _ => core_alloc m c).trans (bigSep_fupd _ _)).trans (BI.fupd_mono (regroup m))

/-! ### The credit that comes with what is owed -/

theorem tally_dma (d c : Dev nD) (i i' : DmaSem sig) (n : ℕ) : (tallyAt (dCell d i') () n : CellTallies nD τ sig Unit) (dCell c i) () = if d = c ∧ i' = i then n else 0 := by
  rw [tallyAt_apply]
  refine if_congr ⟨fun ⟨h, _⟩ => ?_, fun ⟨h, h'⟩ => ⟨by rw [h, h'], rfl⟩⟩ rfl rfl
  exact ⟨(congrArg (fun g : GSem nD τ sig => g.1.1) h).symm, (SemLoc.dma.inj (congrArg Prod.snd h)).symm⟩
theorem tally_bar_dma (d c : Dev nD) (i : DmaSem sig) (n : ℕ) : (tallyAt (barCell d) () n : CellTallies nD τ sig Unit) (dCell c i) () = 0 := by
  rw [tallyAt_apply, if_neg fun ⟨h, _⟩ => by have := congrArg Prod.snd h; cases this]
theorem tally_dma_bar (d c : Dev nD) (i : DmaSem sig) (n : ℕ) : (tallyAt (dCell d i) () n : CellTallies nD τ sig Unit) (barCell c) () = 0 := by
  rw [tallyAt_apply, if_neg fun ⟨h, _⟩ => by have := congrArg Prod.snd h; cases this]
theorem tally_bar (d c : Dev nD) (n : ℕ) : (tallyAt (barCell d) () n : CellTallies nD τ sig Unit) (barCell c) () = if d = c then n else 0 := by
  rw [tallyAt_apply]
  exact if_congr ⟨fun ⟨h, _⟩ => (congrArg (fun g : GSem nD τ sig => g.1.1) h).symm, fun h => ⟨by rw [h], rfl⟩⟩ rfl rfl

theorem yp_eq_iff (d c : Dev nD) : yp d = c ↔ d = yp c := ⟨fun h => by rw [← h, yp_yp], fun h => by rw [h, yp_yp]⟩
theorem xp_eq_iff (d c : Dev nD) : xp d = c ↔ d = xp c := ⟨fun h => by rw [← h, xp_xp], fun h => by rw [h, xp_xp]⟩

theorem owed_bar (d c : Dev nD) : O₀ d (barCell c) () = (if d = xp c then 1 else 0) + (if d = yp c then 1 else 0) := by
  simp only [O₀, O₁, OS, OX, OY, Pi.add_apply, Finsupp.add_apply, Pi.zero_apply, Finsupp.zero_apply, tally_dma_bar, tally_bar, yp_eq_iff, xp_eq_iff, Nat.zero_add]
theorem owed_yr (d c : Dev nD) (k : Fin 4) : O₀ d (dCell c (yrS k)) () = if d = yp c then nB else 0 := by
  simp only [O₀, O₁, OS, OX, OY, Pi.add_apply, Finsupp.add_apply, Pi.zero_apply, Finsupp.zero_apply, tally_dma, tally_bar_dma, yp_eq_iff, xp_eq_iff, Nat.zero_add, Nat.add_zero]
  generalize nB = n
  by_cases h : d = yp c
  · simp only [h, true_and, if_true]
    fin_cases k <;> simp
  · simp [h]
    fin_cases k <;> simp
theorem owed_xr (d c : Dev nD) (k : Fin 4) : O₀ d (dCell c (xrS k)) () = if d = xp c then nB else 0 := by
  simp only [O₀, O₁, OS, OX, OY, Pi.add_apply, Finsupp.add_apply, Pi.zero_apply, Finsupp.zero_apply, tally_dma, tally_bar_dma, yp_eq_iff, xp_eq_iff, Nat.zero_add, Nat.add_zero]
  generalize nB = n
  by_cases h : d = xp c
  · simp only [h, true_and, if_true]
    fin_cases k <;> simp
  · simp [h]
    fin_cases k <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]
theorem launch_of {c : Dev nD} {i : DmaSem sig} {p : Dev nD} (h : ∀ d, O₀ d (dCell c i) () = if d = p then nB else 0) (hi : amt i = nB) :
    tallyOn (dCell c i) (launchCredit (Pipeline.owing O₀) 0 (dCell c i)) = (tallyAt (dCell c i) () (amt i) : CellTallies nD τ sig Unit) := by
  unfold tallyAt; refine congrArg _ (Finsupp.ext fun u => ?_); cases u
  rw [hi, Pipeline.launchCredit_owing, Finsupp.single_eq_same, Finset.sum_congr rfl fun d _ => h d, Finset.sum_ite_eq' Finset.univ p fun _ => nB, if_pos (Finset.mem_univ _)]
theorem launch_yr (c : Dev nD) (k : Fin 4) :
    tallyOn (dCell c (yrS k)) (launchCredit (Pipeline.owing O₀) 0 (dCell c (yrS k))) = (tallyAt (dCell c (yrS k)) () (amt (yrS k)) : CellTallies nD τ sig Unit) :=
  launch_of (fun d => owed_yr d c k) (amt_nB _ (by fin_cases k <;> decide))
theorem launch_xr (c : Dev nD) (k : Fin 4) :
    tallyOn (dCell c (xrS k)) (launchCredit (Pipeline.owing O₀) 0 (dCell c (xrS k))) = (tallyAt (dCell c (xrS k)) () (amt (xrS k)) : CellTallies nD τ sig Unit) :=
  launch_of (fun d => owed_xr d c k) (amt_nB _ (by fin_cases k <;> decide))

omit [FloatOps F] in
theorem creds (c : Dev nD) :
    (Pipeline.launchCred O₀ c : sProp 𝕄) ⊢ iprop(cred (tallyAt (barCell c) () 2) ∗ (four fun k => cred (tallyAt (dCell c (yrS k)) () (amt (yrS k))))
      ∗ (four fun k => cred (tallyAt (dCell c (xrS k)) () (amt (xrS k))))) := by
  unfold Pipeline.launchCred
  refine (bigSep_subset (Finset.subset_univ (Finset.univ.map ⟨csem, csem_injective⟩))).trans ?_
  rw [bigSep_map, bigSep_univ_sum, bigSep_univ_eq_bigSepL (I := Unit) [()] (by decide) (by decide), bigSepL_singleton]
  refine (sep_mono_left (allD_of _)).trans ?_
  iintro ⟨⟨-, -, Hy, -, Hx, -⟩, Hb⟩
  isplitl [Hb]; · iapply (Entails.of_eq (congrArg cred (launch_bar c))); iexact Hb
  isplitl [Hy]
  · iapply (Entails.of_eq (congrArg four (funext fun k => congrArg cred (launch_yr c k)))); iexact Hy
  · iapply (Entails.of_eq (congrArg four (funext fun k => congrArg cred (launch_xr c k)))); iexact Hx

/-! ### Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none, unscopedRest0_eq]
  unfold start given records awaits begins comings bufs ctx fly
  iintro ⟨⟨H0, H1, Hv⟩, Hlev, Hcr, -, ⟨%K, ⟨HI, HR⟩, Hp, Hr, ⟨Ha0, Ha1, Ha2, Ha3⟩, ⟨Hb0, Hb1, Hb2, Hb3⟩, Hat⟩⟩
  ihave Hc := (creds (F := F) c) $$ Hcr
  icases Hc with ⟨Hcb, ⟨Hc0, Hc1, Hc2, Hc3⟩, ⟨Hd0, Hd1, Hd2, Hd3⟩⟩
  imodintro
  isplitl
  · iexists K
    isplitl [HI HR Hlev]
    · isplitl [HI]; · iexact HI
      isplitl [HR] <;> iassumption
    isplitl [Hp]; · iexact Hp
    isplitl [Hr]; · iexact Hr
    isplitl [Ha0 Ha1 Ha2 Ha3 Hb0 Hb1 Hb2 Hb3 Hc0 Hc1 Hc2 Hc3 Hd0 Hd1 Hd2 Hd3]
    · isplitl [Ha0 Ha1 Ha2 Ha3 Hc0 Hc1 Hc2 Hc3]
      · isplitl [Ha0 Hc0]
        · isplitl [Ha0] <;> iassumption
        isplitl [Ha1 Hc1]
        · isplitl [Ha1] <;> iassumption
        isplitl [Ha2 Hc2]
        · isplitl [Ha2] <;> iassumption
        isplitl [Ha3] <;> iassumption
      isplitl [Hb0 Hd0]
      · isplitl [Hb0] <;> iassumption
      isplitl [Hb1 Hd1]
      · isplitl [Hb1] <;> iassumption
      isplitl [Hb2 Hd2]
      · isplitl [Hb2] <;> iassumption
      isplitl [Hb3] <;> iassumption
    isplitl [Hat]; · iexact Hat
    isplitl [Hcb]; · iexact Hcb
    isplitl [H0]; · iexact H0
    isplitl [H1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop((unscopedSems0 c ∗ bufs m c (G m c)) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ ends scratch
  iintro ⟨⟨Hb, Hz, HzB⟩, Hr⟩
  isplitl [Hb HzB]
  · isplitl [HzB] <;> iassumption
  isplitl [Hz]
  · iapply (allD_to (fin c)); iexact Hz
  iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

/-- What the final memory holds on device `c`. -/
abbrev Final (c : Dev nD) (s : MemSt nD τ sig (Elt F)) : Prop :=
  s.mem ((c : Thread nD τ).loc main_arg0) = A0 m c ∧ s.mem ((c : Thread nD τ).loc main_arg1) = A1 m c ∧ s.mem ((c : Thread nD τ).loc main_v1) = G m c

theorem read_out (c : Dev nD) (s' : Phys nD τ sig (Elt F)) :
    iprop((unscopedSems0 c ∗ bufs m c (G m c)) ∗ emp ∗ SI s')
      ⊢ |={Set.univ}=> iprop(⌜Final m c s'.mem ∧ ∀ sm : SemLoc sig, sm.isScoped .tc = false → s'.mem.sem ((c.tc : Thread nD τ), sm) = 0⌝ ∗ (SI s' : sProp 𝕄)) := by
  unfold bufs
  iintro ⟨⟨Hu, H0, H1, Hv⟩, -, HSI⟩
  imod (Pipeline.unscopedSems0_read (X := unscopedSems0 c) (c := c) fupd_intro s') $$ [Hu HSI] with ⟨%hu, HSI⟩
  · isplitl [Hu] <;> iassumption
  icombine HSI H0 gives %h0
  icombine HSI H1 gives %h1
  icombine HSI Hv gives %hv
  imodintro
  isplitr
  · ipureintro
    exact ⟨⟨Buf.eq_of_forall_mem_univ h0, Buf.eq_of_forall_mem_univ h1, Buf.eq_of_forall_mem_univ hv⟩, hu⟩
  iexact HSI

/-- **The run.** On the compiled mesh of sixteen devices, for any float values, from any memory with zero counters: every
    weakly fair execution terminates, and every final state has the operands unchanged, the result at the computed
    contents on every device, and every semaphore counter at zero. -/
theorem run_main : θ_run defs (onTc (τ := τ) (main (F := F))) ⟨m, fun _ => 0, ρ⟩ (fun r => (∀ c : Dev nD, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deals m) (G' := given m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := fun c => iprop(unscopedSems0 c ∗ bufs m c (G m c))) (Z := fun _ => iprop(emp))
    (hX := start_intro m ρ) (hin := phi0_intro m) (hout := phi1_exit m)
    (QY := fun c s => Final m c s ∧ ∀ sm : SemLoc sig, sm.isScoped .tc = false → s.sem ((c.tc : Thread nD τ), sm) = 0)
    (hY := read_out m)
    (hQ := fun _ h hs => ⟨fun c => (h c).2.2.1, sem_eq_zero hs fun c => (h c).2.2.2⟩)

end Cert.KernelIdeal.Run
-- ==== Proof.Value.lean ====
/-
The value, over the extended reals: with the two whole operands cut along their columns over the devices, every device's
result is the whole product.
-/
module

public import proofs.«01_k».proof.Proof.Mesh
public import proofs.«01_k».proof.Proof.Gen.ReferenceIdeal.Run
public import Idealize.ShloMosaic.Lib.Pointwise
public import Idealize.ShloMosaic.Lib.Layout

@[expose] public section

set_option maxRecDepth 16000

noncomputable section

namespace Cert.KernelIdeal.Run

open Cert.KernelIdeal Cert.KernelIdeal.Gen
open Idealize.ShloMosaic
open Idealize.ShloMosaic.TcCoe

variable (m : (ℓ : Loc nD τ sig) → Buf (Elt Ideal) ℓ)

/-! ## What the kernel computes, at an index -/

/-- The rows of the first operand device `c` works on, at an index. -/
theorem D_apply (c : Dev nD) (i : Fin 256) (q : Fin 2048) :
    D m c (ix2 i q) = A0 m c (ix2 ⟨256 * (xr c).val + i.val, by have := (xr c).isLt; omega⟩ q) := by
  show A0 m c ((rA (xr c)).emb (ix2 i q)) = _
  refine congrArg (A0 m c) (funext fun a => Fin.ext ?_)
  fin_cases a
  · show 256 * (xr c).val + 1 * i.val = 256 * (xr c).val + i.val; omega
  · show 0 + 1 * q.val = q.val; omega

/-- The `k`-th 128 rows of the second operand, at an index. -/
theorem Wk_apply (c : Dev nD) (k : Fin 4) (j : Fin 128) (q : Fin 2048) :
    Wk m c k (ix2 j q) = A1 m c (ix2 ⟨128 * k.val + j.val, by omega⟩ q) := by
  show A1 m c ((rW k).emb (ix2 j q)) = _
  refine congrArg (A1 m c) (funext fun a => Fin.ext ?_)
  fin_cases a
  · show 128 * k.val + 1 * j.val = 128 * k.val + j.val; omega
  · show 0 + 1 * q.val = q.val; omega

/-- A partial product is the sum of products over the device's own part of the contraction. -/
theorem pay_apply (d : Vec Ideal S256x2048 .f32) (w : Vec Ideal S128x2048 .f32) (i : Fin 256) (j : Fin 128) :
    k0_pay2 d w (ix3 (0 : Fin 1) i j) = ∑ q : Fin 2048, d (ix2 i q) * w (ix2 j q) := by
  pointwise [k0_pay2, k0_pay1]

/-- The sum of two partial products, at an index. -/
theorem add_apply (p p' : Vec Ideal S1x256x128 .bf16) (i : Fin 256) (j : Fin 128) :
    k0_pay7 p p' (ix2 i j) = p (ix3 (0 : Fin 1) i j) + p' (ix3 (0 : Fin 1) i j) := by
  pointwise [k0_pay7]

/-! ## Against the whole product -/

/-- The coordinate of `c` along `y`: which half of the contraction it holds. -/
def yc (c : Dev nD) : ℕ := (c.val / 4) % 2
theorem yc_lt (c : Dev nD) : yc c < 2 := Nat.mod_lt _ (by decide)
theorem yc_yp (c : Dev nD) : yc (yp c) = 1 - yc c := by revert c; decide

/-- Whoever is responsible for half `r` of the rows computes half `r`. -/
theorem xr_dOf (c : Dev nD) (r : Fin 2) : xr (dOf c r) = r := by revert c r; decide

/-- Device `c`'s part of a whole array, as the mesh cuts it. -/
abbrev part (X : FVec Ideal Cert.ReferenceIdeal.S512x4096 .f32) (c : Dev nD) : S512x2048.Idx → EReal :=
  Layout.blockN ⟨2, ![512, 2048]⟩ ⟨2, ![512, 4096]⟩ (Layout.meshBlock [2, 2, 4] ![[], [1]] c) X

/-- It is the columns of one half. -/
theorem part_apply (X : FVec Ideal Cert.ReferenceIdeal.S512x4096 .f32) (c : Dev nD) (i : Fin 512) (q : Fin 2048) :
    part X c (ix2 i q) = X (ix2 i ⟨2048 * yc c + q.val, by have := yc_lt c; omega⟩) := by
  rw [part, Layout.blockN_apply]
  refine congrArg X (funext fun a => Fin.ext ?_)
  rw [Layout.TilesN.idx_val]
  fin_cases a
  · show 0 * 512 + i.val = i.val; omega
  · show (c.val / 4 % 2 * 1 + 0) * 2048 + q.val = 2048 * (c.val / 4 % 2) + q.val; omega

/-- What the reference computes from its two operands. -/
def product (X W : FVec Ideal Cert.ReferenceIdeal.S512x4096 .f32) : FVec Ideal Cert.ReferenceIdeal.S512x512 .bf16 :=
  truncf .bf16 (Host.dotGeneral Cert.ReferenceIdeal.dot_S512x4096_S4096x512_S512x512_1_0_0_1_n_n none X
    (transpose Cert.ReferenceIdeal.S4096x512 [1, 0] W Cert.ReferenceIdeal.Gen.transposes_S512x4096_S4096x512_1_0)) Cert.ReferenceIdeal.Gen.bitsLt_bf16_f32

/-- It, at an index. -/
theorem product_apply (X W : FVec Ideal Cert.ReferenceIdeal.S512x4096 .f32) (i j : Fin 512) :
    product X W (ix2 i j) = ∑ q : Fin 4096, X (ix2 i q) * W (ix2 j q) := by
  pointwise [product]

/-- The whole contraction is the halves of a device and of its partner along `y`. -/
theorem sum_halves (c : Dev nD) (f : Fin 4096 → EReal) :
    ∑ q : Fin 4096, f q = (∑ q : Fin 2048, f ⟨2048 * yc c + q.val, by have := yc_lt c; omega⟩)
      + ∑ q : Fin 2048, f ⟨2048 * yc (yp c) + q.val, by have := yc_lt (yp c); omega⟩ := by
  rw [Fin.sum_univ_two_halves 2048 2048 rfl f]
  have h := yc_yp c
  have : yc c = 0 ∨ yc c = 1 := by have := yc_lt c; omega
  rcases this with h0 | h0
  · refine congrArg₂ _ (Finset.sum_congr rfl fun q _ => congrArg f (Fin.ext ?_)) (Finset.sum_congr rfl fun q _ => congrArg f (Fin.ext ?_)) <;>
      dsimp only <;> omega
  · rw [add_comm]
    refine congrArg₂ _ (Finset.sum_congr rfl fun q _ => congrArg f (Fin.ext ?_)) (Finset.sum_congr rfl fun q _ => congrArg f (Fin.ext ?_)) <;>
      dsimp only <;> omega

variable {X W : FVec Ideal Cert.ReferenceIdeal.S512x4096 .f32} (h : ∀ c, A0 m c = part X c ∧ A1 m c = part W c)
include h

/-- A partial product, in the whole operands. -/
theorem P_apply (c : Dev nD) (k : Fin 4) (i : Fin 256) (j : Fin 128) :
    P m c k (ix3 (0 : Fin 1) i j) = ∑ q : Fin 2048,
      X (ix2 ⟨256 * (xr c).val + i.val, by have := (xr c).isLt; omega⟩ ⟨2048 * yc c + q.val, by have := yc_lt c; omega⟩)
        * W (ix2 ⟨128 * k.val + j.val, by omega⟩ ⟨2048 * yc c + q.val, by have := yc_lt c; omega⟩) := by
  unfold P
  rw [pay_apply]
  refine Finset.sum_congr rfl fun q _ => ?_
  rw [D_apply, Wk_apply, (h c).1, (h c).2, part_apply, part_apply]

/-- The sum of the partners' partial products is a block of the whole product. -/
theorem Bk_apply (d : Dev nD) (k : Fin 4) (i : Fin 256) (j : Fin 128) :
    Bk m d k (ix2 i j) = ∑ q : Fin 4096, X (ix2 ⟨256 * (xr d).val + i.val, by have := (xr d).isLt; omega⟩ q) * W (ix2 ⟨128 * k.val + j.val, by omega⟩ q) := by
  unfold Bk
  rw [add_apply, P_apply m h d, P_apply m h (yp d), sum_halves d]
  simp only [xr_yp]

/-- **The value.** Every device's result is the reference's product of the whole operands. -/
theorem G_eq (c : Dev nD) : G m c = product X W := by
  funext i
  have h0 : (i 0).val < 512 := (i 0).isLt
  have h1 : (i 1).val < 512 := (i 1).isLt
  have hi : i = ix2 (⟨(i 0).val, h0⟩ : Fin 512) (⟨(i 1).val, h1⟩ : Fin 512) := by
    funext a; fin_cases a <;> rfl
  have hp (a : Fin 256) (b : Fin 128) : (Shape.pair a b : S256x128.Idx) = ix2 a b := by
    funext x; fin_cases x <;> rfl
  refine Eq.trans ?_ ((product_apply X W ⟨(i 0).val, h0⟩ ⟨(i 1).val, h1⟩).symm.trans (congrArg _ hi.symm))
  unfold G
  refine (congrArg _ (hp _ _)).trans ((Bk_apply m h _ _ _ _).trans ?_)
  refine Finset.sum_congr rfl fun q _ => ?_
  congr 3
  · refine Fin.ext ?_
    have hr := congrArg Fin.val (xr_dOf c ⟨(i 0).val / 256, by omega⟩)
    show 256 * (xr (dOf c ⟨(i 0).val / 256, _⟩)).val + (i 0).val % 256 = (i 0).val
    rw [hr]
    show 256 * ((i 0).val / 256) + (i 0).val % 256 = (i 0).val
    omega
  · refine Fin.ext ?_
    show 128 * ((i 1).val / 128) + (i 1).val % 128 = (i 1).val
    omega

end Cert.KernelIdeal.Run
-- ==== Proof.lean ====
/-
The five claims: the frames of the kernel, of the ideal kernel and of the reference, the ideal kernel's text, and the
kernel's result against the reference's. The run of the kernel is in Proof.Launch, its value in Proof.Value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem
open Cert.KernelIdeal.Run (run_main product G_eq)

/-- The kernel, on the machine's floats, ends with its operands unchanged and every semaphore counter at zero. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- So does the same kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- So does the reference, which has no semaphores. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- On every device the kernel's result is the reference's, from operands cut over the mesh. -/
theorem value : Cert.algebraic_KernelIdeal_ReferenceIdeal := fun m g m' g' _ hin =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (G_eq m hin c), (h.1 c).1, (h.1 c).2.1⟩) (run_main (F := Ideal) m g),
    (θ_run Cert.ReferenceIdeal.defs _ _).mono (fun _ h => h 0) (Cert.ReferenceIdeal.Value.run (F := Ideal) m' g')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
